-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x2 : Shape := ⟨2, ![16384, 2]⟩
abbrev S2000000x16 : Shape := ⟨2, ![2000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : FVec F S2000000x16 .f32) (main_arg2 : FVec F S32x64 .f32) (main_arg3 : FVec F S64 .f32) (main_arg4 : FVec F S64x32 .f32) (main_arg5 : FVec F S32 .f32) (main_arg6 : FVec F S32x16 .f32) (main_arg7 : FVec F S16 .f32) (main_arg8 : FVec F S32x1 .f32) (main_arg9 : FVec F S1 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 1000000#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Kernel.lean ====
abbrev S16384x2 : Shape := ⟨2, ![16384, 2]⟩
abbrev S2000000x16 : Shape := ⟨2, ![2000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S2 : Shape := ⟨1, ![2]⟩
abbrev S1x2 : Shape := ⟨2, ![1, 2]⟩
abbrev S2x16384 : Shape := ⟨2, ![2, 16384]⟩
abbrev S32768 : Shape := ⟨1, ![32768]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S4096x128 : Shape := ⟨2, ![4096, 128]⟩
abbrev S16x2000000 : Shape := ⟨2, ![16, 2000000]⟩
abbrev S2x8x15625x128 : Shape := ⟨4, ![2, 8, 15625, 128]⟩
abbrev S2x15625x8x128 : Shape := ⟨4, ![2, 15625, 8, 128]⟩
abbrev S32000000 : Shape := ⟨1, ![32000000]⟩
abbrev S128x128 : Shape := ⟨2, ![128, 128]⟩
abbrev S1x128 : Shape := ⟨2, ![1, 128]⟩
abbrev S128 : Shape := ⟨1, ![128]⟩
abbrev S8x8 : Shape := ⟨2, ![8, 8]⟩
abbrev S8x1x8x1 : Shape := ⟨4, ![8, 1, 8, 1]⟩
abbrev S16x64 : Shape := ⟨2, ![16, 64]⟩
abbrev S1x16x1x64 : Shape := ⟨4, ![1, 16, 1, 64]⟩
abbrev S8x16x8x64 : Shape := ⟨4, ![8, 16, 8, 64]⟩
abbrev S128x512 : Shape := ⟨2, ![128, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x64x1x32 : Shape := ⟨4, ![1, 64, 1, 32]⟩
abbrev S8x64x8x32 : Shape := ⟨4, ![8, 64, 8, 32]⟩
abbrev S512x256 : Shape := ⟨2, ![512, 256]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S1x32x1x16 : Shape := ⟨4, ![1, 32, 1, 16]⟩
abbrev S8x32x8x16 : Shape := ⟨4, ![8, 32, 8, 16]⟩
abbrev S256x128 : Shape := ⟨2, ![256, 128]⟩
abbrev S8x16 : Shape := ⟨2, ![8, 16]⟩
abbrev S8x1x8 : Shape := ⟨3, ![8, 1, 8]⟩
abbrev S16x1 : Shape := ⟨2, ![16, 1]⟩
abbrev S1x16x1 : Shape := ⟨3, ![1, 16, 1]⟩
abbrev S8x16x8 : Shape := ⟨3, ![8, 16, 8]⟩
abbrev S128x8 : Shape := ⟨2, ![128, 8]⟩
abbrev S1x1 : Shape := ⟨2, ![1, 1]⟩
abbrev S2048x8 : Shape := ⟨2, ![2048, 8]⟩
abbrev S2048x128 : Shape := ⟨2, ![2048, 128]⟩
abbrev S2048x512 : Shape := ⟨2, ![2048, 512]⟩
abbrev S2048x256 : Shape := ⟨2, ![2048, 256]⟩
abbrev S16384 : Shape := ⟨1, ![16384]⟩

abbrev nBuf : Table → Nat
  | .hbm => 115
  | .local .tc .vmem => 13
  | .local .scVector .vmem => 2
  | _ => 0

abbrev bufTy : (tb : Table) → Fin (nBuf tb) → BufTy
  | .hbm, ⟨0, _⟩ => ⟨S16384x2, .i32⟩
  | .hbm, ⟨1, _⟩ => ⟨S2000000x16, .f32⟩
  | .hbm, ⟨2, _⟩ => ⟨S32x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S32x1, .f32⟩
  | .hbm, ⟨9, _⟩ => ⟨S1, .f32⟩
  | .hbm, ⟨10, _⟩ => ⟨S2, .i32⟩
  | .hbm, ⟨11, _⟩ => ⟨S1x2, .i32⟩
  | .hbm, ⟨12, _⟩ => ⟨S16384x2, .i32⟩
  | .hbm, ⟨13, _⟩ => ⟨S16384x2, .i32⟩
  | .hbm, ⟨14, _⟩ => ⟨S2x16384, .i32⟩
  | .hbm, ⟨15, _⟩ => ⟨S32768, .i32⟩
  | .hbm, ⟨16, _⟩ => ⟨S_, .i32⟩
  | .hbm, ⟨17, _⟩ => ⟨S32768, .i32⟩
  | .hbm, ⟨18, _⟩ => ⟨S32768, .i32⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S16, .i32⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S32768x1, .i32⟩
  | .hbm, ⟨41, _⟩ => ⟨S1x16, .i32⟩
  | .hbm, ⟨42, _⟩ => ⟨S32768x16, .i32⟩
  | .hbm, ⟨43, _⟩ => ⟨S32768x16, .i32⟩
  | .hbm, ⟨44, _⟩ => ⟨S32768x16, .i32⟩
  | .hbm, ⟨45, _⟩ => ⟨S4096x128, .i32⟩
  | .hbm, ⟨46, _⟩ => ⟨S16x2000000, .f32⟩
  | .hbm, ⟨47, _⟩ => ⟨S2x8x15625x128, .f32⟩
  | .hbm, ⟨48, _⟩ => ⟨S2x15625x8x128, .f32⟩
  | .hbm, ⟨49, _⟩ => ⟨S32000000, .f32⟩
  | .hbm, ⟨50, _⟩ => ⟨S4096x128, .f32⟩
  | .hbm, ⟨51, _⟩ => ⟨S8x8, .i32⟩
  | .hbm, ⟨52, _⟩ => ⟨S8x8, .i32⟩
  | .hbm, ⟨53, _⟩ => ⟨S_, .i32⟩
  | .hbm, ⟨54, _⟩ => ⟨S8x8, .i32⟩
  | .hbm, ⟨55, _⟩ => ⟨S8x8, .i32⟩
  | .hbm, ⟨56, _⟩ => ⟨S8x8, .i1⟩
  | .hbm, ⟨57, _⟩ => ⟨S8x8, .f32⟩
  | .hbm, ⟨58, _⟩ => ⟨S8x1x8x1, .f32⟩
  | .hbm, ⟨59, _⟩ => ⟨S16x64, .f32⟩
  | .hbm, ⟨60, _⟩ => ⟨S1x16x1x64, .f32⟩
  | .hbm, ⟨61, _⟩ => ⟨S8x16x8x64, .f32⟩
  | .hbm, ⟨62, _⟩ => ⟨S8x16x8x64, .f32⟩
  | .hbm, ⟨63, _⟩ => ⟨S8x16x8x64, .f32⟩
  | .hbm, ⟨64, _⟩ => ⟨S128x512, .f32⟩
  | .hbm, ⟨65, _⟩ => ⟨S8x1x8x1, .f32⟩
  | .hbm, ⟨66, _⟩ => ⟨S16x64, .f32⟩
  | .hbm, ⟨67, _⟩ => ⟨S1x16x1x64, .f32⟩
  | .hbm, ⟨68, _⟩ => ⟨S8x16x8x64, .f32⟩
  | .hbm, ⟨69, _⟩ => ⟨S8x16x8x64, .f32⟩
  | .hbm, ⟨70, _⟩ => ⟨S8x16x8x64, .f32⟩
  | .hbm, ⟨71, _⟩ => ⟨S128x512, .f32⟩
  | .hbm, ⟨72, _⟩ => ⟨S1x64, .f32⟩
  | .hbm, ⟨73, _⟩ => ⟨S8x64, .f32⟩
  | .hbm, ⟨74, _⟩ => ⟨S512, .f32⟩
  | .hbm, ⟨75, _⟩ => ⟨S1x512, .f32⟩
  | .hbm, ⟨76, _⟩ => ⟨S8x1x8x1, .f32⟩
  | .hbm, ⟨77, _⟩ => ⟨S1x64x1x32, .f32⟩
  | .hbm, ⟨78, _⟩ => ⟨S8x64x8x32, .f32⟩
  | .hbm, ⟨79, _⟩ => ⟨S8x64x8x32, .f32⟩
  | .hbm, ⟨80, _⟩ => ⟨S8x64x8x32, .f32⟩
  | .hbm, ⟨81, _⟩ => ⟨S512x256, .f32⟩
  | .hbm, ⟨82, _⟩ => ⟨S1x32, .f32⟩
  | .hbm, ⟨83, _⟩ => ⟨S8x32, .f32⟩
  | .hbm, ⟨84, _⟩ => ⟨S256, .f32⟩
  | .hbm, ⟨85, _⟩ => ⟨S1x256, .f32⟩
  | .hbm, ⟨86, _⟩ => ⟨S8x1x8x1, .f32⟩
  | .hbm, ⟨87, _⟩ => ⟨S1x32x1x16, .f32⟩
  | .hbm, ⟨88, _⟩ => ⟨S8x32x8x16, .f32⟩
  | .hbm, ⟨89, _⟩ => ⟨S8x32x8x16, .f32⟩
  | .hbm, ⟨90, _⟩ => ⟨S8x32x8x16, .f32⟩
  | .hbm, ⟨91, _⟩ => ⟨S256x128, .f32⟩
  | .hbm, ⟨92, _⟩ => ⟨S1x16, .f32⟩
  | .hbm, ⟨93, _⟩ => ⟨S8x16, .f32⟩
  | .hbm, ⟨94, _⟩ => ⟨S128, .f32⟩
  | .hbm, ⟨95, _⟩ => ⟨S1x128, .f32⟩
  | .hbm, ⟨96, _⟩ => ⟨S8x1x8, .f32⟩
  | .hbm, ⟨97, _⟩ => ⟨S16x1, .f32⟩
  | .hbm, ⟨98, _⟩ => ⟨S16, .f32⟩
  | .hbm, ⟨99, _⟩ => ⟨S1x16x1, .f32⟩
  | .hbm, ⟨100, _⟩ => ⟨S8x16x8, .f32⟩
  | .hbm, ⟨101, _⟩ => ⟨S8x16x8, .f32⟩
  | .hbm, ⟨102, _⟩ => ⟨S8x16x8, .f32⟩
  | .hbm, ⟨103, _⟩ => ⟨S128x8, .f32⟩
  | .hbm, ⟨104, _⟩ => ⟨S8x1x8, .f32⟩
  | .hbm, ⟨105, _⟩ => ⟨S16x1, .f32⟩
  | .hbm, ⟨106, _⟩ => ⟨S16, .f32⟩
  | .hbm, ⟨107, _⟩ => ⟨S1x16x1, .f32⟩
  | .hbm, ⟨108, _⟩ => ⟨S8x16x8, .f32⟩
  | .hbm, ⟨109, _⟩ => ⟨S8x16x8, .f32⟩
  | .hbm, ⟨110, _⟩ => ⟨S8x16x8, .f32⟩
  | .hbm, ⟨111, _⟩ => ⟨S128x8, .f32⟩
  | .hbm, ⟨112, _⟩ => ⟨S1x1, .f32⟩
  | .hbm, ⟨113, _⟩ => ⟨S2048x8, .f32⟩
  | .hbm, ⟨114, _⟩ => ⟨S16384, .f32⟩
  | .local .tc .vmem, ⟨0, _⟩ => ⟨S2048x128, .f32⟩
  | .local .tc .vmem, ⟨1, _⟩ => ⟨S2048x128, .f32⟩
  | .local .tc .vmem, ⟨2, _⟩ => ⟨S128x512, .f32⟩
  | .local .tc .vmem, ⟨3, _⟩ => ⟨S128x512, .f32⟩
  | .local .tc .vmem, ⟨4, _⟩ => ⟨S1x512, .f32⟩
  | .local .tc .vmem, ⟨5, _⟩ => ⟨S512x256, .f32⟩
  | .local .tc .vmem, ⟨6, _⟩ => ⟨S1x256, .f32⟩
  | .local .tc .vmem, ⟨7, _⟩ => ⟨S256x128, .f32⟩
  | .local .tc .vmem, ⟨8, _⟩ => ⟨S1x128, .f32⟩
  | .local .tc .vmem, ⟨9, _⟩ => ⟨S128x8, .f32⟩
  | .local .tc .vmem, ⟨10, _⟩ => ⟨S128x8, .f32⟩
  | .local .tc .vmem, ⟨11, _⟩ => ⟨S1x1, .f32⟩
  | .local .tc .vmem, ⟨12, _⟩ => ⟨S2048x8, .f32⟩
  | .local .scVector .vmem, ⟨0, _⟩ => ⟨S128x128, .i32⟩
  | .local .scVector .vmem, ⟨1, _⟩ => ⟨S128x128, .f32⟩
  | _, _ => ⟨S16384x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v27_scv : Ref sig .scVector := ⟨.hbm, 45, rfl⟩
abbrev main_v31_scv : Ref sig .scVector := ⟨.hbm, 49, rfl⟩
abbrev main_v32_scv : Ref sig .scVector := ⟨.hbm, 50, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev cc1_sem11_0 : DmaSem sig := 14
abbrev cc1_sem12_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_778_r0 : BitVec 32 := 0#32
  ![v2.toNat, 0]
def k0_off2 (c0_i32_4 : BitVec 32) : Fin 2 → Nat :=
  let c0_i32_0 : BitVec 32 := 0#32
  let c128_i32_3 : BitVec 32 := 128#32
  let v5 : BitVec 32 := Scalar.muli c0_i32_0 c128_i32_3
  let v6 : BitVec 32 := Scalar.addi v5 c0_i32_4
  let c0_i32_5 : BitVec 32 := 0#32
  ![v6.toNat, 0]
@[reducible] def k0_t1_loop : Scf.Loop 32 :=
  let c0_i32_773 : BitVec 32 := 0#32
  let c128_i32_774 : BitVec 32 := 128#32
  let v1155 : BitVec 32 := Scalar.addi c0_i32_773 c128_i32_774
  let c1_i32_775 : BitVec 32 := 1#32
  ⟨c0_i32_773, v1155, c1_i32_775⟩
def k0_off3 (k0_t1 : Fin k0_t1_loop.trips) : Fin 2 → Nat :=
  let c0_i32_773 : BitVec 32 := 0#32
  let c1_i32_775 : BitVec 32 := 1#32
  let arg8 : BitVec 32 := Scf.iv c0_i32_773 c1_i32_775 k0_t1
  let c0_i32_778 : BitVec 32 := 0#32
  ![arg8.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S2048x8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2 : Shape := ⟨2, ![16384, 2]⟩
abbrev S2000000x16 : Shape := ⟨2, ![2000000, 16]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S32x1 : Shape := ⟨2, ![32, 1]⟩
abbrev S1 : Shape := ⟨1, ![1]⟩
abbrev S2 : Shape := ⟨1, ![2]⟩
abbrev S1x2 : Shape := ⟨2, ![1, 2]⟩
abbrev S_ : Shape := ⟨0, ![]⟩
abbrev S16384x2x1 : Shape := ⟨3, ![16384, 2, 1]⟩
abbrev S1x1x1 : Shape := ⟨3, ![1, 1, 1]⟩
abbrev S16384x2x16 : Shape := ⟨3, ![16384, 2, 16]⟩
abbrev S16384x1x16 : Shape := ⟨3, ![16384, 1, 16]⟩
abbrev S16384x16 : Shape := ⟨2, ![16384, 16]⟩
abbrev S16384x32 : Shape := ⟨2, ![16384, 32]⟩
abbrev S16384x64 : Shape := ⟨2, ![16384, 64]⟩
abbrev S1x64 : Shape := ⟨2, ![1, 64]⟩
abbrev S1x32 : Shape := ⟨2, ![1, 32]⟩
abbrev S1x16 : Shape := ⟨2, ![1, 16]⟩
abbrev S16384x1 : Shape := ⟨2, ![16384, 1]⟩
abbrev S1x1 : Shape := ⟨2, ![1, 1]⟩
abbrev S16384 : Shape := ⟨1, ![16384]⟩

abbrev nBuf : Space → Nat
  | .hbm => 70
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S2000000x16, .f32⟩
  | .hbm, ⟨2, _⟩ => ⟨S32x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S32x1, .f32⟩
  | .hbm, ⟨9, _⟩ => ⟨S1, .f32⟩
  | .hbm, ⟨10, _⟩ => ⟨S2, .i32⟩
  | .hbm, ⟨11, _⟩ => ⟨S1x2, .i32⟩
  | .hbm, ⟨12, _⟩ => ⟨S16384x2, .i32⟩
  | .hbm, ⟨13, _⟩ => ⟨S16384x2, .i32⟩
  | .hbm, ⟨14, _⟩ => ⟨S_, .i32⟩
  | .hbm, ⟨15, _⟩ => ⟨S16384x2, .i32⟩
  | .hbm, ⟨16, _⟩ => ⟨S16384x2, .i1⟩
  | .hbm, ⟨17, _⟩ => ⟨S_, .i32⟩
  | .hbm, ⟨18, _⟩ => ⟨S16384x2, .i32⟩
  | .hbm, ⟨19, _⟩ => ⟨S16384x2, .i32⟩
  | .hbm, ⟨20, _⟩ => ⟨S16384x2, .i32⟩
  | .hbm, ⟨21, _⟩ => ⟨S16384x2x1, .i32⟩
  | .hbm, ⟨22, _⟩ => ⟨S1, .i32⟩
  | .hbm, ⟨23, _⟩ => ⟨S_, .i32⟩
  | .hbm, ⟨24, _⟩ => ⟨S16384x2x1, .i32⟩
  | .hbm, ⟨25, _⟩ => ⟨S16384x2x1, .i1⟩
  | .hbm, ⟨26, _⟩ => ⟨S1x1x1, .i32⟩
  | .hbm, ⟨27, _⟩ => ⟨S16384x2x1, .i32⟩
  | .hbm, ⟨28, _⟩ => ⟨S16384x2x1, .i1⟩
  | .hbm, ⟨29, _⟩ => ⟨S16384x2x1, .i1⟩
  | .hbm, ⟨30, _⟩ => ⟨S_, .i1⟩
  | .hbm, ⟨31, _⟩ => ⟨S16384x2, .i1⟩
  | .hbm, ⟨32, _⟩ => ⟨S16384x2x16, .f32⟩
  | .hbm, ⟨33, _⟩ => ⟨S16384x2x16, .i1⟩
  | .hbm, ⟨34, _⟩ => ⟨S_, .f32⟩
  | .hbm, ⟨35, _⟩ => ⟨S16384x2x16, .f32⟩
  | .hbm, ⟨36, _⟩ => ⟨S16384x2x16, .f32⟩
  | .hbm, ⟨37, _⟩ => ⟨S16384x1x16, .f32⟩
  | .hbm, ⟨38, _⟩ => ⟨S16384x16, .f32⟩
  | .hbm, ⟨39, _⟩ => ⟨S16384x1x16, .f32⟩
  | .hbm, ⟨40, _⟩ => ⟨S16384x16, .f32⟩
  | .hbm, ⟨41, _⟩ => ⟨S16384x16, .f32⟩
  | .hbm, ⟨42, _⟩ => ⟨S16384x32, .f32⟩
  | .hbm, ⟨43, _⟩ => ⟨S16384x64, .f32⟩
  | .hbm, ⟨44, _⟩ => ⟨S1x64, .f32⟩
  | .hbm, ⟨45, _⟩ => ⟨S16384x64, .f32⟩
  | .hbm, ⟨46, _⟩ => ⟨S16384x64, .f32⟩
  | .hbm, ⟨47, _⟩ => ⟨S_, .f32⟩
  | .hbm, ⟨48, _⟩ => ⟨S16384x64, .f32⟩
  | .hbm, ⟨49, _⟩ => ⟨S16384x64, .f32⟩
  | .hbm, ⟨50, _⟩ => ⟨S16384x32, .f32⟩
  | .hbm, ⟨51, _⟩ => ⟨S1x32, .f32⟩
  | .hbm, ⟨52, _⟩ => ⟨S16384x32, .f32⟩
  | .hbm, ⟨53, _⟩ => ⟨S16384x32, .f32⟩
  | .hbm, ⟨54, _⟩ => ⟨S_, .f32⟩
  | .hbm, ⟨55, _⟩ => ⟨S16384x32, .f32⟩
  | .hbm, ⟨56, _⟩ => ⟨S16384x32, .f32⟩
  | .hbm, ⟨57, _⟩ => ⟨S16384x16, .f32⟩
  | .hbm, ⟨58, _⟩ => ⟨S1x16, .f32⟩
  | .hbm, ⟨59, _⟩ => ⟨S16384x16, .f32⟩
  | .hbm, ⟨60, _⟩ => ⟨S16384x16, .f32⟩
  | .hbm, ⟨61, _⟩ => ⟨S_, .f32⟩
  | .hbm, ⟨62, _⟩ => ⟨S16384x16, .f32⟩
  | .hbm, ⟨63, _⟩ => ⟨S16384x16, .f32⟩
  | .hbm, ⟨64, _⟩ => ⟨S16384x32, .f32⟩
  | .hbm, ⟨65, _⟩ => ⟨S16384x1, .f32⟩
  | .hbm, ⟨66, _⟩ => ⟨S1x1, .f32⟩
  | .hbm, ⟨67, _⟩ => ⟨S16384x1, .f32⟩
  | .hbm, ⟨68, _⟩ => ⟨S16384x1, .f32⟩
  | .hbm, ⟨69, _⟩ => ⟨S16384, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call1_cst : Ref sig .tc := ⟨.hbm, 47, rfl⟩
abbrev main_call1_v0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_call2_cst : Ref sig .tc := ⟨.hbm, 54, rfl⟩
abbrev main_call2_v0 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_call3_cst : Ref sig .tc := ⟨.hbm, 61, rfl⟩
abbrev main_call3_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩

abbrev nD : Nat := 1
abbrev τ : Topo := Topo.v7x

variable {F : FTy → Type} [FloatOps F]
-- ==== Proof.GatherBatch.lean ====
/-
  Several indirect gathers outstanding on ONE DMA semaphore, as one counted batch.

  Each entry of an offset list is a transfer of one row of the gather's destination and pays that row's credit. When
  every row of every gather has the same credit `N`, the entries of all the gathers are the transfers of a single
  `Transfers.Batch` with `N` units each: an issue takes the batch from `j` to `j + o` transfers issued, `o` the entries
  of its list (`wp_gatherBatch`). The waits count units only; after the last one the batch hands every entry's delivery
  back at once, and the deliveries of one gather's entries are its destination written with the gathered rows and the
  shares it borrowed (`delivery_join`).
-/
module

public import Idealize.ShloMosaic.Lib.Batch
public import Idealize.ShloMosaic.Lib.SparseCore.Stream

@[expose] public section

noncomputable section

namespace Cert.Proof.GatherBatch

open Idealize.ShloMosaic
open Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

omit [Preorder Lvl] in
/-- The transfers still to issue after the first `j` are the next `o` of them and those after these. -/
theorem pending_block {n : ℕ} (Φ : Fin n → sProp 𝕄) (j : ℕ) :
    ∀ (o : ℕ) (h : j + o ≤ n), bigSep (pending j) Φ
      = iprop((bigSep Finset.univ fun k : Fin o => Φ ⟨j + k.val, by omega⟩) ∗ bigSep (pending (j + o)) Φ)
  | 0, h => by
    rw [Finset.univ_eq_empty, BI.bigSep_empty]
    have h1 : ∀ A : sProp 𝕄, A ⊢ iprop(BI.emp ∗ A) := fun A => by
      iintro H
      isplitr; · iempintro
      iexact H
    have h2 : ∀ A : sProp 𝕄, iprop(BI.emp ∗ A) ⊢ A := fun A => by
      iintro ⟨-, H⟩
      iexact H
    exact BI.Entails.antisymm (h1 _) (h2 _)
  | o + 1, h => by
    have e1 := pending_block Φ j o (by omega)
    have e2 : bigSep (pending (j + o)) Φ = iprop(Φ ⟨j + o, by omega⟩ ∗ bigSep (pending (j + (o + 1))) Φ) := by
      rw [pending_succ (n := n) (k := j + o) (by omega), BI.bigSep_insert (not_mem_pending_succ _)]; rfl
    have e3 : (bigSep Finset.univ fun k : Fin (o + 1) => Φ ⟨j + k.val, by omega⟩)
        = iprop(Φ ⟨j + o, by omega⟩ ∗ bigSep Finset.univ fun k : Fin o => Φ ⟨j + k.val, by omega⟩) := by
      rw [Fin.univ_castSuccEmb, Finset.cons_eq_insert, BI.bigSep_insert (by simp), BI.bigSep_map]; rfl
    rw [e1, e2, e3]
    have h1 : ∀ A B C : sProp 𝕄, iprop(A ∗ B ∗ C) ⊢ iprop((B ∗ A) ∗ C) := fun A B C => by
      iintro ⟨HA, HB, HC⟩
      isplitl [HA HB]; · isplitl [HB] <;> iassumption
      iexact HC
    have h2 : ∀ A B C : sProp 𝕄, iprop((B ∗ A) ∗ C) ⊢ iprop(A ∗ B ∗ C) := fun A B C => by
      iintro ⟨⟨HB, HA⟩, HC⟩
      isplitl [HA]; · iexact HA
      isplitl [HB] <;> iassumption
    exact BI.Entails.antisymm (h1 _ _ _) (h2 _ _ _)

/-- The list's entry `k`, in row-major order, as an index of the list. -/
def entry {o : ℕ} (hn : si.numel = o) (k : Fin o) : si.Idx := si.rowMajor.symm (k.cast hn.symm)

/-- Each of the list's indices is one entry's. -/
theorem entry_bijective {o : ℕ} (hn : si.numel = o) : Function.Bijective (entry (si := si) hn) :=
  si.rowMajor.symm.bijective.comp (finCongr hn.symm).bijective

/-- What entry `k` of a gather delivers: row `k` of the destination, written with the source's row the list names; the
    entry's word of the list; and its share of the source. -/
def delivery (src : Memref sig c.2.kind sp s₀ e) (dst : Memref sig c.2.kind .vmem s e) (hg : s₀.Gathers a s)
    (offs : Memref sig c.2.kind .vmem si .i32) (hn : si.numel = s.size hg.axis')
    (qk : Fin (s.size hg.axis') → PosShare TreeShare) (qo : PosShare TreeShare)
    (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (entry hn j)}]{qo} fo)) ∗ (src.view.loc c ↦[src.view.set]{qk j} fs))

/-- A delivery may be held by an invariant. -/
instance delivery_storable {src : Memref sig c.2.kind sp s₀ e} {dst : Memref sig c.2.kind .vmem s e} {hg : s₀.Gathers a s}
    {offs : Memref sig c.2.kind .vmem si .i32} {hn : si.numel = s.size hg.axis'}
    {qk : Fin (s.size hg.axis') → PosShare TreeShare} {qo : PosShare TreeShare}
    {fs : Buf (Elt F) (src.view.loc c)} {fd : Buf (Elt F) (dst.view.loc c)} {fo : Buf (Elt F) (offs.view.loc c)}
    {r : Fin (s.size hg.axis') → Fin (s₀.size hg.axis)} (j : Fin (s.size hg.axis')) :
    Storable (upEmb : UEmb _ 𝕄) (delivery c src dst hg offs hn qk qo fs fd fo r j) := by
  unfold delivery; infer_instance

/-- All the entries' deliveries of one gather are its destination written with the gathered rows, the source's share whole
    again and the list's share whole again. -/
theorem delivery_join {src : Memref sig c.2.kind sp s₀ e} {dst : Memref sig c.2.kind .vmem s e} {hg : s₀.Gathers a s}
    {offs : Memref sig c.2.kind .vmem si .i32} {hn : si.numel = s.size hg.axis'}
    {q qo : PosShare TreeShare} (ho : 0 < s.size hg.axis')
    {fs : Buf (Elt F) (src.view.loc c)} {fd : Buf (Elt F) (dst.view.loc c)} {fo : Buf (Elt F) (offs.view.loc c)}
    {r : Fin (s.size hg.axis') → Fin (s₀.size hg.axis)} :
    bigSep Finset.univ (fun j => delivery c src dst hg offs hn (pieceOf q _ ho) qo fs fd fo r j)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  unfold delivery
  have hW : ∀ (j : Fin (s.size hg.axis')) (i : (s.rowShape hg.axis').Idx), (src.view.read (Elt F) fs (hg.rowIdx (r j) i) : Elt F e)
      = gatherPayload hg (src.view.read (Elt F) fs) r ((s.rowRect hg.axis' j).emb i) := fun j i => by
    unfold gatherPayload; rw [Shape.Gathers.idx_rowRect_emb]
  have hj : bigSep Finset.univ (fun j => (dst.view.loc c ↦[(dst.view.slice (s.rowRect hg.axis' j)).set]{fullShare}
            ((dst.view.slice (s.rowRect hg.axis' j)).write (Elt F) fd (fun i => src.view.read (Elt F) fs (hg.rowIdx (r j) i)) Finset.univ) : sProp 𝕄))
      ⊢ (dst.view.loc c ↦[dst.view.set]{fullShare} (dst.view.write (Elt F) fd (gatherPayload hg (src.view.read (Elt F) fs) r) Finset.univ) : sProp 𝕄) :=
    pointsTo_rows_write c dst.view hg.axis' fd (fun j i => src.view.read (Elt F) fs (hg.rowIdx (r j) i)) _ hW
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply hj $$ Hrows
  isplitl [Hsrc]; · iapply (Entails.of_eq (pointsTo_piecesOf (src.view.set) fs ho q).symm) $$ Hsrc
  iapply (Entails.of_eq (pointsTo_entries c offs.view (entry hn) (entry_bijective hn) qo fo).symm) $$ Hoffs

/-- `enqueueIndirectGather` against a batch: holding a share of the source's elements, the destination's outright, a share
    of the list's, whose words are in range, and the batch with `j` transfers issued, the tile issues the gather and
    continues with `j + o` issued, `o` the list's entries. Entry `k` is transfer `j + k`, of which the batch must ask what
    the entry delivers (`hD`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hj : j + s.size hg.axis' ≤ n) (hu : u ≤ j * N)
    (hD : ∀ i : Fin (s.size hg.axis'), delivery c src dst hg offs hn (pieceOf q _ ho) qo fs fd fo (rows (offs.view.read (Elt F) fo) hn hin) i
      ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let qk : Fin (s.size hg.axis') → PosShare TreeShare := pieceOf q _ ho
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N :=
    sum_rowCredit_eq (fun j => (dst.slice (s.rowRect hg.axis' j) (s.stride_rowRect hg.axis' j)).view.dmaCredit) hN rfl
  unfold Batch
  iintro ⟨Hs, Hd, Ho, ⟨%γ, %γ₀, %κ, #Hinv, HI, H0, Hcred⟩⟩ Hk
  ihave HI' := (Entails.of_eq (pending_block (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view (entry hn) (entry_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd) ∗ (offs.view.loc c ↦[{offs.view.emb (entry hn i)}]{qo} fo))
          ∗ (src.view.loc c ↦[src.view.set]{qk i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγj⟩
      isplitl [He]; · iexact He
      iintro He
      unfold rowRes
      iexists qk i, fs, iprop((dst.view.loc c ↦[(dst.view.slice (s.rowRect hg.axis' i)).set]{fullShare}
          ((dst.view.slice (s.rowRect hg.axis' i)).write (Elt F) fd (fun x => src.view.read (Elt F) fs (hg.rowIdx (r i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · ihave Hcu := (batch_creditUpdate EC (g := (c, SemLoc.dma sem)) (N := N) (D := D) (γ := γ) (γ₀ := γ₀) (ι := κ) ⟨j + i.val, by omega⟩ (hD i)) $$ [Hγj]
        · isplitr; · iexact Hinv
          iexact Hγj
        ihave Hcu' := (Entails.of_eq (show creditUpdate (c, SemLoc.dma sem) N 0 _ = creditUpdate (c, SemLoc.dma sem) _ 0 _ by
          rw [← hN i])) $$ Hcu
        iexact Hcu'
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.GatherBatch

end
-- ==== Proof.GatherBody.lean ====
/- The gather kernel's body, with its 128 unrolled gathers written as one recursion: copy this tile's block of the index
   array in, issue the 128 gathers, wait 128 times, copy the gathered rows out. It is the printed body by unfolding. -/
module

public import proofs.«01_k».proof.Proof.Gen.KernelIdeal
public import proofs.«01_k».proof.Proof.Gen.KernelIdeal.Skeleton

@[expose] public section

noncomputable section

namespace Cert.Proof.GatherBody

open Idealize.ShloMosaic Idealize.SL.Sem Cert.KernelIdeal Cert.KernelIdeal.Gen

variable {F : FTy → Type} [FloatOps F] (i : grid0.Coords)
  (arg2 : Memref sig .scVector .hbm S4096x128 .i32) (arg3 : Memref sig .scVector .hbm S32000000 .f32)
  (arg4 : Memref sig .scVector .hbm S4096x128 .f32) (arg5 : Memref sig .scVector .vmem S128x128 .i32)
  (arg6 : Memref sig .scVector .vmem S128x128 .f32) (arg7 : DmaSems sig S_) (r0 r1 : DmaSems sig S_)

/-- A tile's program. -/
abbrev TileProg (F : FTy → Type) [FloatOps F] (i : grid0.Coords) : Type _ :=
  Prog (TpuEff nD τ sig (Elt F) Λ₀ (.scVector ((i 0).castLE hcore0) ((i 1).castLE hsub0))) PUnit

/-- The whole table, as the gathers name it. -/
abbrev tvAll : Memref sig .scVector .hbm S32000000 .f32 :=
  arg3.slice (Rect.unit (s := S32000000) ![0] S32000000.size inb_S32000000_S32000000_0) (fun _ => rfl)

/-- Row `r` of the gathered rows' scratch. -/
abbrev rowAt (r : Fin 128) : Memref sig .scVector .vmem S128 .f32 :=
  (arg6.slice (Rect.unit (s := S128x128) (k0_off2 (BitVec.ofNat 32 r.val)) S1x128.size (k0_off2_inb r)) (fun _ => rfl)).squeeze S128 squeezes_S1x128_S128

/-- Row `r` of the index scratch: the list of the `r`-th gather. -/
abbrev listAt (r : Fin 128) : Memref sig .scVector .vmem S128 .i32 :=
  (arg5.slice (Rect.unit (s := S128x128) (k0_off2 (BitVec.ofNat 32 r.val)) S1x128.size (k0_off2_inb r)) (fun _ => rfl)).squeeze S128 squeezes_S1x128_S128

/-- This tile's block of the index array. -/
abbrev idxBlock : Memref sig .scVector .hbm S128x128 .i32 :=
  arg2.slice (Rect.unit (s := S4096x128) (k0_off1 i) S128x128.size (k0_off1_inb i)) (fun _ => rfl)

/-- This tile's block of the result. -/
abbrev outBlock : Memref sig .scVector .hbm S128x128 .f32 :=
  arg4.slice (Rect.unit (s := S4096x128) (k0_off1 i) S128x128.size (k0_off1_inb i)) (fun _ => rfl)

/-- The `r`-th gather. -/
def issue (r : Fin 128) : TileProg F i :=
  SparseCore.enqueueIndirectGather rfl (tvAll arg3) (rowAt arg6 r) gathers_S32000000_S128 (listAt arg5 r) rfl arg7.sem (View.wordExact_bits rfl) rfl (Or.inl rfl)

/-- The last `n` gathers, and then `k`. -/
def issues : (n : ℕ) → n ≤ 128 → TileProg F i → TileProg F i
  | 0, _, k => k
  | n + 1, h, k => issue i arg3 arg5 arg6 arg7 ⟨128 - (n + 1), by omega⟩ >>= fun _ => issues n (by omega) k

/-- The copy of the gathered rows to this tile's block of the result, and its wait. -/
def copyOut (harg6 : arg6.IsWhole) : TileProg F i := do
  Prog.lift (.enqueueDma arg6 (.here (outBlock i arg4)) (.dma r1.sem) harg6.wordExact (View.wordExact_bits rfl) ⟨Or.inl rfl, trivial⟩)
  Prog.lift (.waitDma2 r1.sem arg6 (outBlock i arg4) harg6.wordExact (View.wordExact_bits rfl))
  pure ⟨⟩

/-- One wait for a gather. -/
def drainOne (t : Fin k0_t1_loop.trips) : TileProg F i := do
  SparseCore.waitIndirectGather arg7.sem (tvAll arg3)
    ((arg6.slice (Rect.unit (s := S128x128) (k0_off3 t) S1x128.size (k0_off3_inb t)) (fun _ => rfl)).squeeze S128 squeezes_S1x128_S128)
    (View.wordExact_bits rfl) ((View.wordExact_bits rfl).reshape _ _)
  pure ⟨⟩

/-- The waits for the gathers, and then `k`. -/
def drain (k : TileProg F i) : TileProg F i :=
  (Scf.Loop.for k0_t1_loop k0_t1_ok ⟨⟩ fun t _ => drainOne i arg3 arg6 arg7 t) >>= fun _ => k

/-- The body, its gathers as a recursion. -/
def body (harg5 : arg5.IsWhole) (harg6 : arg6.IsWhole) : TileProg F i := do
  Prog.lift (.enqueueDma (idxBlock i arg2) (.here arg5) (.dma r0.sem) (View.wordExact_bits rfl) harg5.wordExact ⟨Or.inl rfl, trivial⟩)
  Prog.lift (.waitDma2 r0.sem (idxBlock i arg2) arg5 (View.wordExact_bits rfl) harg5.wordExact)
  issues i arg3 arg5 arg6 arg7 128 le_rfl (drain i arg3 arg6 arg7 (copyOut i arg4 arg6 r1 harg6))

set_option maxRecDepth 100000 in
/-- The printed body is this one. -/
theorem body_eq (harg2 : arg2.IsWhole) (harg3 : arg3.IsWhole) (harg4 : arg4.IsWhole) (harg5 : arg5.IsWhole) (harg6 : arg6.IsWhole) :
    cc0__gather_body (F := F) i arg2 harg2 arg3 harg3 arg4 harg4 arg5 harg5 arg6 harg6 arg7 r0 r1
      = body i arg2 arg3 arg4 arg5 arg6 arg7 r0 r1 harg5 harg6 := rfl

end Cert.Proof.GatherBody
-- ==== Proof.Setup.lean ====
/- The launch of the gather kernel: the program as the launch theorem sees it, the ghost state, what the handshakes carry.

   Tile `(c, s)` works on block `2 s + c` of the 32 blocks of 128 rows. It takes its block of the index array and of the
   result and a 32nd share of the table, and brings back the block of the result holding the looked-up elements. -/
module

public import proofs.«01_k».proof.Proof.GatherBatch
public import proofs.«01_k».proof.Proof.GatherBody
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the program without its SparseCore call. -/
abbrev ΛP : Labels := Pipeline.Sig Λ₀ (Fin 1) fun p => (pcfgs (F := F) p).Adm
/-- The SparseCore call. -/
abbrev K : SparseCore.Cfg τ sig (ΛP (F := F)) 1 := sc (F := F)
/-- It runs on sixteen tiles -/
theorem nSub_zero : (K (F := F)).nSub 0 = 16 := rfl
/-- of two cores. -/
theorem nCore_zero : (K (F := F)).nCore 0 = 2 := rfl
/-- The program's bodies without the SparseCore call. -/
abbrev D [FloatOps F] : Defs nD τ sig (Elt F) (ΛP (F := F)) := Pipeline.defs pcfgs defs₀
/-- No body loops by a variant. -/
abbrev 𝒱₀ : Variants := Variants.none
/-- The same, with the pipeline. -/
abbrev 𝒱 : Variants := 𝒱₀.lift
/-- A variant to start from. -/
abbrev v₀ : 𝒱.V := Sum.inl none

/-- What the launch asks of the semaphores and buffers, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

/-- The handshakes' rounds. -/
abbrev UH : Type := URounds (GSem nD τ sig) ℕ
/-- The pipeline's rounds. -/
abbrev UP : Type := URounds (GSem nD τ sig) Unit
/-- All the ghost state. -/
abbrev UU : Type := UH × (UP × Counters)

local notation "𝕄" => MT nD τ sig (HIx 1) (Elt F) ℕ UU ℕ

/-- The handshakes' rounds, inside the ghost state. -/
abbrev EH : Emb UH (MT nD τ sig (HIx 1) (Elt F) ℕ UU ℕ) := embL

/-- The pipeline's rounds, inside the certificate's ghost state. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

/-- The pipeline's rounds lie in the user's part of it. -/
instance EP_landsIn : (EP : Emb UP (MT nD τ sig (HIx 1) (Elt F) ℕ UU ℕ)).LandsIn (upEmb : UEmb _ 𝕄) := by unfold EP; infer_instance

/-! ## The buffers -/

/-- Where the positions lie, -/
abbrev wLoc (d : Dev nD) : Loc nD τ sig := (SparseCore.T d).loc main_v27
/-- the table, -/
abbrev tLoc (d : Dev nD) : Loc nD τ sig := (SparseCore.T d).loc main_v31
/-- and the result. -/
abbrev oLoc (d : Dev nD) : Loc nD τ sig := (SparseCore.T d).loc main_v32

/-- The positions, as a tile names them, -/
abbrev wV : Memref sig .scVector .hbm S4096x128 .i32 := Memref.whole main_v27_scv
/-- the table, -/
abbrev tV : Memref sig .scVector .hbm S32000000 .f32 := Memref.whole main_v31_scv
/-- the result, -/
abbrev oV : Memref sig .scVector .hbm S4096x128 .f32 := Memref.whole main_v32_scv
/-- the tile's scratch of positions -/
abbrev sV : Memref sig .scVector .vmem S128x128 .i32 := Memref.whole cc0_scratch0
/-- and its scratch of rows. -/
abbrev rV : Memref sig .scVector .vmem S128x128 .f32 := Memref.whole cc0_scratch1

/-- The rows part into 32 blocks. -/
theorem div32 : 32 ∣ S4096x128.size 0 := ⟨128, rfl⟩
/-- Block `w` of 128 rows. -/
abbrev blk (w : Fin 32) : Rect S4096x128 := Rect.part (s := S4096x128) (a₀ := 0) div32 w
/-- Block `w`'s positions -/
abbrev wSet (w : Fin 32) : Finset S4096x128.Idx := ((wV).view.slice (blk w)).set
/-- and its elements of the result. -/
abbrev oSet (w : Fin 32) : Finset S4096x128.Idx := ((oV).view.slice (blk w)).set

/-- Tile `(c, s)`'s block. -/
def wid (c : Fin 2) (s : Fin 16) : Fin 32 := ⟨2 * s.val + c.val, by omega⟩

/-- Block `w`'s share of the table. -/
abbrev tq (w : Fin 32) : PosShare TreeShare := pieceOf fullShare 32 (by omega) w

/-! ## What the kernel computes -/

variable (I : (d : Dev nD) → Buf (Elt F) (wLoc d)) (T₀ : (d : Dev nD) → Buf (Elt F) (tLoc d))

/-- Index `n` of the table, as an index of its shape. -/
def tIdx (n : ℕ) : S32000000.Idx := fun a => ⟨n % 32000000, by match a with | 0 => exact Nat.mod_lt n (show 0 < 32000000 by omega)⟩

/-- The gathered array: element `(r, l)` is the table at the index array's word `(r, l)`. -/
def outF (d : Dev nD) : Buf (Elt F) (oLoc d) := fun x : S4096x128.Idx => (T₀ d (tIdx (BitVec.toNat (I d x : BitVec 32))) : F .f32)

/-- Every word of the index array names an element of the table. -/
def InRange : Prop := ∀ (d : Dev nD) (x : S4096x128.Idx), BitVec.toNat (I d x : BitVec 32) < 32000000

/-! ## What the handshakes carry -/

/-- Block `w`'s positions, owned. -/
abbrev wPts (d : Dev nD) (w : Fin 32) : sProp 𝕄 := wLoc d ↦[wSet w]{fullShare} I d
/-- A share of the table, one of the 32. -/
abbrev tPts (d : Dev nD) (w : Fin 32) : sProp 𝕄 := tLoc d ↦{tq w} T₀ d
/-- Block `w` of the result, owned at `f`. -/
abbrev oPts (d : Dev nD) (w : Fin 32) (f : Buf (Elt F) (oLoc d)) : sProp 𝕄 := oLoc d ↦[oSet w]{fullShare} f

/-- What block `w`'s tile takes. -/
def goP (d : Dev nD) (w : Fin 32) : sProp 𝕄 := iprop(wPts I d w ∗ tPts T₀ d w ∗ ∃ f, oPts d w f)
/-- What block `w`'s tile brings back. -/
def tdP (d : Dev nD) (w : Fin 32) : sProp 𝕄 := iprop(wPts I d w ∗ tPts T₀ d w ∗ oPts d w (outF I T₀ d))

/-- What a tile takes may be held by an invariant, -/
instance goP_storable (d : Dev nD) (w : Fin 32) : BI.Storable (upEmb : UEmb _ 𝕄) (goP I T₀ d w) := by unfold goP; infer_instance
/-- what it brings back too, -/
instance tdP_storable (d : Dev nD) (w : Fin 32) : BI.Storable (upEmb : UEmb _ 𝕄) (tdP I T₀ d w) := by unfold tdP; infer_instance

/-- The block of task `i` of core `c`, as the launch counts them. -/
abbrev wid' (c : Fin ((K (F := F)).nCore 0)) (i : Fin ((K (F := F)).nSub 0)) : Fin 32 := wid (Fin.cast nCore_zero c) (Fin.cast nSub_zero i)

/-- Each core takes and brings back what its sixteen tiles do. -/
def P : (K (F := F)).Pay (nD := nD) (Val := Elt F) (Name := ℕ) (U := UU) where
  st := fun q d c => match q with | 0 => bigSep Finset.univ fun i : Fin ((K (F := F)).nSub 0) => goP I T₀ d (wid' c i)
  dn := fun q d c => match q with | 0 => bigSep Finset.univ fun i : Fin ((K (F := F)).nSub 0) => tdP I T₀ d (wid' c i)
  go := fun q d c i => match q with | 0 => goP I T₀ d (wid' c i)
  td := fun q d c i => match q with | 0 => tdP I T₀ d (wid' c i)
  x := fun _ _ => iprop(emp)

/-- and what the cores do. -/
instance P_storable : (P (F := F) I T₀).IsStorable where
  st q d c := match q with
    | 0 => (inferInstance : BI.Storable (upEmb : UEmb _ 𝕄) (bigSep Finset.univ fun i : Fin ((K (F := F)).nSub 0) => goP I T₀ d (wid' c i)))
  dn q d c := match q with
    | 0 => (inferInstance : BI.Storable (upEmb : UEmb _ 𝕄) (bigSep Finset.univ fun i : Fin ((K (F := F)).nSub 0) => tdP I T₀ d (wid' c i)))
  go q d c i := match q with | 0 => (inferInstance : BI.Storable (upEmb : UEmb _ 𝕄) (goP I T₀ d (wid' c i)))
  td q d c i := match q with | 0 => (inferInstance : BI.Storable (upEmb : UEmb _ 𝕄) (tdP I T₀ d (wid' c i)))

/-- A core's operands are its tiles', and what its tiles bring back is what it does. -/
theorem vecSplit : (K (F := F)).VecSplit' (P I T₀) 0 := by
  intro d c
  show (bigSep Finset.univ fun i : Fin ((K (F := F)).nSub 0) => goP I T₀ d (wid' c i)) ⊢ |={Set.univ}=> iprop(
      (bigSep Finset.univ fun i : Fin ((K (F := F)).nSub 0) => goP I T₀ d (wid' c i))
      ∗ ((bigSep Finset.univ fun i : Fin ((K (F := F)).nSub 0) => tdP I T₀ d (wid' c i))
          -∗ (bigSep Finset.univ fun i : Fin ((K (F := F)).nSub 0) => tdP I T₀ d (wid' c i))))
  iintro H; imodintro
  isplitl [H]; · iexact H
  iintro H; iexact H

/-! ## The arrays are their blocks -/

omit I T₀ in
/-- Block `w`'s positions are the block's indices, -/
theorem wSet_eq (w : Fin 32) : wSet w = (blk w).set := by
  show ((View.whole (main_v27_scv : Ref sig .scVector)).slice (blk w)).set = _
  rw [View.set_slice]; exact Finset.map_refl
omit I T₀ in
/-- and so are its elements of the result. -/
theorem oSet_eq (w : Fin 32) : oSet w = (blk w).set := by
  show ((View.whole (main_v32_scv : Ref sig .scVector)).slice (blk w)).set = _
  rw [View.set_slice]; exact Finset.map_refl

omit I T₀ in
/-- The positions are their blocks, -/
theorem wPts_blocks (d : Dev nD) (f : Buf (Elt F) (wLoc d)) :
    (wLoc d ↦{fullShare} f : sProp 𝕄) = bigSep Finset.univ fun w : Fin 32 => wLoc d ↦[wSet w]{fullShare} f := by
  have h : ∀ i ∈ (Finset.univ : Finset (Fin 32)), ∀ j ∈ (Finset.univ : Finset (Fin 32)), i ≠ j → Disjoint (wSet i) (wSet j) :=
    fun i _ j _ h => by rw [wSet_eq, wSet_eq]; exact Rect.part_disjoint div32 h
  rw [← pointsTo_biUnion Finset.univ (ℓ := wLoc d) wSet h, (Finset.biUnion_congr rfl fun i _ => wSet_eq i).trans (Rect.biUnion_part div32)]; try rfl
omit I T₀ in
/-- the result its blocks, -/
theorem oPts_blocks (d : Dev nD) (f : Buf (Elt F) (oLoc d)) :
    (oLoc d ↦{fullShare} f : sProp 𝕄) = bigSep Finset.univ fun w : Fin 32 => oLoc d ↦[oSet w]{fullShare} f := by
  have h : ∀ i ∈ (Finset.univ : Finset (Fin 32)), ∀ j ∈ (Finset.univ : Finset (Fin 32)), i ≠ j → Disjoint (oSet i) (oSet j) :=
    fun i _ j _ h => by rw [oSet_eq, oSet_eq]; exact Rect.part_disjoint div32 h
  rw [← pointsTo_biUnion Finset.univ (ℓ := oLoc d) oSet h, (Finset.biUnion_congr rfl fun i _ => oSet_eq i).trans (Rect.biUnion_part div32)]; try rfl
omit I T₀ in
/-- and the table its 32 shares. -/
theorem tPts_shares (d : Dev nD) (f : Buf (Elt F) (tLoc d)) :
    (tLoc d ↦{fullShare} f : sProp 𝕄) = bigSep Finset.univ fun w : Fin 32 => tLoc d ↦{tq w} f :=
  pointsTo_piecesOf Finset.univ f (by omega) fullShare

/-- The 32 blocks, core by core and tile by tile. -/
def blockEquiv : Fin ((K (F := F)).nCore 0) × Fin ((K (F := F)).nSub 0) ≃ Fin 32 where
  toFun p := wid' p.1 p.2
  invFun w := (⟨w.val % 2, Nat.mod_lt _ (by omega)⟩, ⟨w.val / 2, by show w.val / 2 < 16; omega⟩)
  left_inv p := by
    obtain ⟨⟨c, hc⟩, ⟨i, hi⟩⟩ := p
    have hc' : c < 2 := hc
    refine Prod.ext (Fin.ext ?_) (Fin.ext ?_)
    · show (2 * i + c) % 2 = c; omega
    · show (2 * i + c) / 2 = i; omega
  right_inv w := Fin.ext (by show 2 * (w.val / 2) + w.val % 2 = w.val; omega)

omit I T₀ in
/-- What holds of every block holds core by core and tile by tile. -/
theorem bigSep_blocks (Φ : Fin 32 → sProp 𝕄) :
    bigSep Finset.univ Φ = bigSep Finset.univ fun c : Fin ((K (F := F)).nCore 0) => bigSep Finset.univ fun i : Fin ((K (F := F)).nSub 0) => Φ (wid' c i) := by
  rw [bigSep_univ_equiv (blockEquiv (F := F)) Φ, bigSep_univ_prod]; rfl

/-- The call's operands, from the three arrays whole. -/
theorem st0_of (d : Dev nD) :
    iprop((wLoc d ↦{fullShare} I d) ∗ (tLoc d ↦{fullShare} T₀ d) ∗ ∃ f, oLoc d ↦{fullShare} f)
      ⊢ (bigSep Finset.univ fun c : Fin ((K (F := F)).nCore 0) => (P I T₀).st 0 d c : sProp 𝕄) := by
  show _ ⊢ bigSep Finset.univ fun c : Fin ((K (F := F)).nCore 0) => bigSep Finset.univ fun i : Fin ((K (F := F)).nSub 0) => goP I T₀ d (wid' c i)
  rw [← bigSep_blocks (F := F) (fun w => goP I T₀ d w)]
  have h1 : ∀ (f : Buf (Elt F) (oLoc d)) (w : Fin 32), iprop(wPts I d w ∗ tPts T₀ d w ∗ oPts d w f) ⊢ (goP I T₀ d w : sProp 𝕄) := fun f w => by
    unfold goP
    iintro ⟨H1, H2, H3⟩
    isplitl [H1]; · iexact H1
    isplitl [H2]; · iexact H2
    iexists f; iexact H3
  have h2 : ∀ f : Buf (Elt F) (oLoc d), iprop((wLoc d ↦{fullShare} I d) ∗ (tLoc d ↦{fullShare} T₀ d) ∗ oLoc d ↦{fullShare} f)
      ⊢ (bigSep Finset.univ fun w : Fin 32 => iprop(wPts I d w ∗ tPts T₀ d w ∗ oPts d w f) : sProp 𝕄) := fun f => by
    rw [bigSep_sep', bigSep_sep', wPts_blocks, tPts_shares, oPts_blocks]
  have h3 : ∀ f : Buf (Elt F) (oLoc d), (bigSep Finset.univ fun w : Fin 32 => iprop(wPts I d w ∗ tPts T₀ d w ∗ oPts d w f) : sProp 𝕄)
      ⊢ bigSep Finset.univ fun w : Fin 32 => goP I T₀ d w := fun f => bigSep_mono fun w _ => h1 f w
  iintro ⟨Hw, Ht, %f, Ho⟩
  iapply (h3 f)
  iapply (h2 f)
  isplitl [Hw]; · iexact Hw
  isplitl [Ht] <;> iassumption

/-- What the call brings back: the three arrays whole, the result holding the looked-up elements. -/
theorem dn0_of (d : Dev nD) :
    (bigSep Finset.univ fun c : Fin ((K (F := F)).nCore 0) => (P I T₀).dn 0 d c : sProp 𝕄)
      ⊢ iprop((wLoc d ↦{fullShare} I d) ∗ (tLoc d ↦{fullShare} T₀ d) ∗ oLoc d ↦{fullShare} outF I T₀ d) := by
  show (bigSep Finset.univ fun c : Fin ((K (F := F)).nCore 0) => bigSep Finset.univ fun i : Fin ((K (F := F)).nSub 0) => tdP I T₀ d (wid' c i)) ⊢ _
  rw [← bigSep_blocks (F := F) (fun w => tdP I T₀ d w)]
  unfold tdP
  rw [bigSep_sep', bigSep_sep', wPts_blocks, tPts_shares, oPts_blocks]

end Cert.Proof.Sc
-- ==== Proof.Ops.lean ====
/- The host program around the two kernels: its operations as three lists, the buffers they write, and the program as
   these lists with the gather and the multilayer perceptron between them. -/
module

public import proofs.«01_k».proof.Proof.Setup
public import Idealize.ShloMosaic.Lib.StableHlo.Run
public import Idealize.ShloMosaic.Lib.Pipeline.Frame

@[expose] public section

noncomputable section

namespace Cert.Proof.Host

open Cert.KernelIdeal Cert.KernelIdeal.Gen

open Idealize.ShloMosaic
open Idealize.ShloMosaic.StableHlo
open Idealize.SL Idealize.SL.RA Idealize.SL.BI Idealize.SL.Sem

variable {F : FTy → Type} [FloatOps F]

/-- The operations before the gather: the positions to read and the table as it lies. -/
def preOps : List (HloOp τ sig (Elt F)) := [
  StableHlo.nullary main_c (fun i => lit0 (S2.rowMajor i)),
  StableHlo.unary main_c main_v0 (broadcastInDim S1x2 ![1] bcast_S2_S1x2_1 : (⟨S2, .i32⟩ : BufTy).Contents (Elt F) → (⟨S1x2, .i32⟩ : BufTy).Contents (Elt F)),
  StableHlo.unary main_v0 main_v1 (broadcastInDim S16384x2 ![0, 1] bcast_S1x2_S16384x2_0_1 : (⟨S1x2, .i32⟩ : BufTy).Contents (Elt F) → (⟨S16384x2, .i32⟩ : BufTy).Contents (Elt F)),
  StableHlo.binary main_arg0 main_v1 main_v2 (addi : (⟨S16384x2, .i32⟩ : BufTy).Contents (Elt F) → (⟨S16384x2, .i32⟩ : BufTy).Contents (Elt F) → (⟨S16384x2, .i32⟩ : BufTy).Contents (Elt F)),
  StableHlo.unary main_v2 main_v3 ((transpose S2x16384 [1, 0] · transposes_S16384x2_S2x16384_1_0) : (⟨S16384x2, .i32⟩ : BufTy).Contents (Elt F) → (⟨S2x16384, .i32⟩ : BufTy).Contents (Elt F)),
  StableHlo.reshape main_v3 main_v4 (rfl : (.i32 : EltTy) = .i32) shapeCasts_S2x16384_S32768,
  StableHlo.nullary main_c_0 (constantI S_ 32 7#32),
  StableHlo.unary main_c_0 main_v5 (broadcastInDim S32768 ![] bcast_S_S32768 : (⟨S_, .i32⟩ : BufTy).Contents (Elt F) → (⟨S32768, .i32⟩ : BufTy).Contents (Elt F)),
  StableHlo.binary main_v4 main_v5 main_v6 (Host.shrsi : (⟨S32768, .i32⟩ : BufTy).Contents (Elt F) → (⟨S32768, .i32⟩ : BufTy).Contents (Elt F) → (⟨S32768, .i32⟩ : BufTy).Contents (Elt F)),
  StableHlo.nullary main_c_1 (constantI S_ 32 1024#32),
  StableHlo.unary main_c_1 main_v7 (broadcastInDim S32768 ![] bcast_S_S32768 : (⟨S_, .i32⟩ : BufTy).Contents (Elt F) → (⟨S32768, .i32⟩ : BufTy).Contents (Elt F)),
  StableHlo.binary main_v6 main_v7 main_v8 (muli : (⟨S32768, .i32⟩ : BufTy).Contents (Elt F) → (⟨S32768, .i32⟩ : BufTy).Contents (Elt F) → (⟨S32768, .i32⟩ : BufTy).Contents (Elt F)),
  StableHlo.nullary main_c_2 (constantI S_ 32 127#32),
  StableHlo.unary main_c_2 main_v9 (broadcastInDim S32768 ![] bcast_S_S32768 : (⟨S_, .i32⟩ : BufTy).Contents (Elt F) → (⟨S32768, .i32⟩ : BufTy).Contents (Elt F)),
  StableHlo.binary main_v4 main_v9 main_v10 (andi : (⟨S32768, .i32⟩ : BufTy).Contents (Elt F) → (⟨S32768, .i32⟩ : BufTy).Contents (Elt F) → (⟨S32768, .i32⟩ : BufTy).Contents (Elt F)),
  StableHlo.binary main_v8 main_v10 main_v11 (addi : (⟨S32768, .i32⟩ : BufTy).Contents (Elt F) → (⟨S32768, .i32⟩ : BufTy).Contents (Elt F) → (⟨S32768, .i32⟩ : BufTy).Contents (Elt F)),
  StableHlo.nullary main_v12 (iotaInDim S16 32 0),
  StableHlo.nullary main_c_3 (constantI S_ 32 3#32),
  StableHlo.unary main_c_3 main_v13 (broadcastInDim S16 ![] bcast_S_S16 : (⟨S_, .i32⟩ : BufTy).Contents (Elt F) → (⟨S16, .i32⟩ : BufTy).Contents (Elt F)),
  StableHlo.binary main_v12 main_v13 main_v14 (Host.shrsi : (⟨S16, .i32⟩ : BufTy).Contents (Elt F) → (⟨S16, .i32⟩ : BufTy).Contents (Elt F) → (⟨S16, .i32⟩ : BufTy).Contents (Elt F)),
  StableHlo.nullary main_c_4 (constantI S_ 32 16000000#32),
  StableHlo.unary main_c_4 main_v15 (broadcastInDim S16 ![] bcast_S_S16 : (⟨S_, .i32⟩ : BufTy).Contents (Elt F) → (⟨S16, .i32⟩ : BufTy).Contents (Elt F)),
  StableHlo.binary main_v14 main_v15 main_v16 (muli : (⟨S16, .i32⟩ : BufTy).Contents (Elt F) → (⟨S16, .i32⟩ : BufTy).Contents (Elt F) → (⟨S16, .i32⟩ : BufTy).Contents (Elt F)),
  StableHlo.nullary main_c_5 (constantI S_ 32 7#32),
  StableHlo.unary main_c_5 main_v17 (broadcastInDim S16 ![] bcast_S_S16 : (⟨S_, .i32⟩ : BufTy).Contents (Elt F) → (⟨S16, .i32⟩ : BufTy).Contents (Elt F)),
  StableHlo.binary main_v12 main_v17 main_v18 (andi : (⟨S16, .i32⟩ : BufTy).Contents (Elt F) → (⟨S16, .i32⟩ : BufTy).Contents (Elt F) → (⟨S16, .i32⟩ : BufTy).Contents (Elt F)),
  StableHlo.nullary main_c_6 (constantI S_ 32 128#32),
  StableHlo.unary main_c_6 main_v19 (broadcastInDim S16 ![] bcast_S_S16 : (⟨S_, .i32⟩ : BufTy).Contents (Elt F) → (⟨S16, .i32⟩ : BufTy).Contents (Elt F)),
  StableHlo.binary main_v18 main_v19 main_v20 (muli : (⟨S16, .i32⟩ : BufTy).Contents (Elt F) → (⟨S16, .i32⟩ : BufTy).Contents (Elt F) → (⟨S16, .i32⟩ : BufTy).Contents (Elt F)),
  StableHlo.binary main_v16 main_v20 main_v21 (addi : (⟨S16, .i32⟩ : BufTy).Contents (Elt F) → (⟨S16, .i32⟩ : BufTy).Contents (Elt F) → (⟨S16, .i32⟩ : BufTy).Contents (Elt F)),
  StableHlo.unary main_v11 main_v22 (broadcastInDim S32768x1 ![0] bcast_S32768_S32768x1_0 : (⟨S32768, .i32⟩ : BufTy).Contents (Elt F) → (⟨S32768x1, .i32⟩ : BufTy).Contents (Elt F)),
  StableHlo.unary main_v21 main_v23 (broadcastInDim S1x16 ![1] bcast_S16_S1x16_1 : (⟨S16, .i32⟩ : BufTy).Contents (Elt F) → (⟨S1x16, .i32⟩ : BufTy).Contents (Elt F)),
  StableHlo.unary main_v22 main_v24 (broadcastInDim S32768x16 ![0, 1] bcast_S32768x1_S32768x16_0_1 : (⟨S32768x1, .i32⟩ : BufTy).Contents (Elt F) → (⟨S32768x16, .i32⟩ : BufTy).Contents (Elt F)),
  StableHlo.unary main_v23 main_v25 (broadcastInDim S32768x16 ![0, 1] bcast_S1x16_S32768x16_0_1 : (⟨S1x16, .i32⟩ : BufTy).Contents (Elt F) → (⟨S32768x16, .i32⟩ : BufTy).Contents (Elt F)),
  StableHlo.binary main_v24 main_v25 main_v26 (addi : (⟨S32768x16, .i32⟩ : BufTy).Contents (Elt F) → (⟨S32768x16, .i32⟩ : BufTy).Contents (Elt F) → (⟨S32768x16, .i32⟩ : BufTy).Contents (Elt F)),
  StableHlo.reshape main_v26 main_v27 (rfl : (.i32 : EltTy) = .i32) shapeCasts_S32768x16_S4096x128,
  StableHlo.unary main_arg1 main_v28 ((transpose S16x2000000 [1, 0] · transposes_S2000000x16_S16x2000000_1_0) : (⟨S2000000x16, .f32⟩ : BufTy).Contents (Elt F) → (⟨S16x2000000, .f32⟩ : BufTy).Contents (Elt F)),
  StableHlo.reshape main_v28 main_v29 (rfl : (.f32 : EltTy) = .f32) shapeCasts_S16x2000000_S2x8x15625x128,
  StableHlo.unary main_v29 main_v30 ((transpose S2x15625x8x128 [0, 2, 1, 3] · transposes_S2x8x15625x128_S2x15625x8x128_0_2_1_3) : (⟨S2x8x15625x128, .f32⟩ : BufTy).Contents (Elt F) → (⟨S2x15625x8x128, .f32⟩ : BufTy).Contents (Elt F)),
  StableHlo.reshape main_v30 main_v31 (rfl : (.f32 : EltTy) = .f32) shapeCasts_S2x15625x8x128_S32000000]

/-- The buffers they write. -/
abbrev preOpsW : List (Ref sig .tc) := [main_c, main_v0, main_v1, main_v2, main_v3, main_v4, main_c_0, main_v5, main_v6, main_c_1, main_v7, main_v8, main_c_2, main_v9, main_v10, main_v11, main_v12, main_c_3, main_v13, main_v14, main_c_4, main_v15, main_v16, main_c_5, main_v17, main_v18, main_c_6, main_v19, main_v20, main_v21, main_v22, main_v23, main_v24, main_v25, main_v26, main_v27, main_v28, main_v29, main_v30, main_v31]

/-- The operations between the gather and the multilayer perceptron: its weights, laid out block-diagonally. -/
def midOps : List (HloOp τ sig (Elt F)) := [
  StableHlo.nullary main_v33 (iotaInDim S8x8 32 0),
  StableHlo.nullary main_v34 (iotaInDim S8x8 32 1),
  StableHlo.nullary main_c_7 (constantI S_ 32 0#32),
  StableHlo.unary main_c_7 main_v35 (broadcastInDim S8x8 ![] bcast_S_S8x8 : (⟨S_, .i32⟩ : BufTy).Contents (Elt F) → (⟨S8x8, .i32⟩ : BufTy).Contents (Elt F)),
  StableHlo.binary main_v33 main_v35 main_v36 (addi : (⟨S8x8, .i32⟩ : BufTy).Contents (Elt F) → (⟨S8x8, .i32⟩ : BufTy).Contents (Elt F) → (⟨S8x8, .i32⟩ : BufTy).Contents (Elt F)),
  StableHlo.binary main_v36 main_v34 main_v37 (cmpi .eq : (⟨S8x8, .i32⟩ : BufTy).Contents (Elt F) → (⟨S8x8, .i32⟩ : BufTy).Contents (Elt F) → (⟨S8x8, .i1⟩ : BufTy).Contents (Elt F)),
  StableHlo.unary main_v37 main_v38 (uitofp .f32 : (⟨S8x8, .i1⟩ : BufTy).Contents (Elt F) → (⟨S8x8, .f32⟩ : BufTy).Contents (Elt F)),
  StableHlo.unary main_v38 main_v39 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_arg2 main_v40 ((extractStridedSlice S16x64 ![0, 0] · slices_S32x64_S16x64_0_0) : (⟨S32x64, .f32⟩ : BufTy).Contents (Elt F) → (⟨S16x64, .f32⟩ : BufTy).Contents (Elt F)),
  StableHlo.unary main_v40 main_v41 (broadcastInDim S1x16x1x64 ![1, 3] bcast_S16x64_S1x16x1x64_1_3 : (⟨S16x64, .f32⟩ : BufTy).Contents (Elt F) → (⟨S1x16x1x64, .f32⟩ : BufTy).Contents (Elt F)),
  StableHlo.unary main_v39 main_v42 (broadcastInDim S8x16x8x64 ![0, 1, 2, 3] bcast_S8x1x8x1_S8x16x8x64_0_1_2_3 : (⟨S8x1x8x1, .f32⟩ : BufTy).Contents (Elt F) → (⟨S8x16x8x64, .f32⟩ : BufTy).Contents (Elt F)),
  StableHlo.unary main_v41 main_v43 (broadcastInDim S8x16x8x64 ![0, 1, 2, 3] bcast_S1x16x1x64_S8x16x8x64_0_1_2_3 : (⟨S1x16x1x64, .f32⟩ : BufTy).Contents (Elt F) → (⟨S8x16x8x64, .f32⟩ : BufTy).Contents (Elt F)),
  StableHlo.binary main_v42 main_v43 main_v44 (mulf : (⟨S8x16x8x64, .f32⟩ : BufTy).Contents (Elt F) → (⟨S8x16x8x64, .f32⟩ : BufTy).Contents (Elt F) → (⟨S8x16x8x64, .f32⟩ : BufTy).Contents (Elt F)),
  StableHlo.reshape main_v44 main_v45 (rfl : (.f32 : EltTy) = .f32) shapeCasts_S8x16x8x64_S128x512,
  StableHlo.unary main_v38 main_v46 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_arg2 main_v47 ((extractStridedSlice S16x64 ![16, 0] · slices_S32x64_S16x64_16_0) : (⟨S32x64, .f32⟩ : BufTy).Contents (Elt F) → (⟨S16x64, .f32⟩ : BufTy).Contents (Elt F)),
  StableHlo.unary main_v47 main_v48 (broadcastInDim S1x16x1x64 ![1, 3] bcast_S16x64_S1x16x1x64_1_3 : (⟨S16x64, .f32⟩ : BufTy).Contents (Elt F) → (⟨S1x16x1x64, .f32⟩ : BufTy).Contents (Elt F)),
  StableHlo.unary main_v46 main_v49 (broadcastInDim S8x16x8x64 ![0, 1, 2, 3] bcast_S8x1x8x1_S8x16x8x64_0_1_2_3 : (⟨S8x1x8x1, .f32⟩ : BufTy).Contents (Elt F) → (⟨S8x16x8x64, .f32⟩ : BufTy).Contents (Elt F)),
  StableHlo.unary main_v48 main_v50 (broadcastInDim S8x16x8x64 ![0, 1, 2, 3] bcast_S1x16x1x64_S8x16x8x64_0_1_2_3 : (⟨S1x16x1x64, .f32⟩ : BufTy).Contents (Elt F) → (⟨S8x16x8x64, .f32⟩ : BufTy).Contents (Elt F)),
  StableHlo.binary main_v49 main_v50 main_v51 (mulf : (⟨S8x16x8x64, .f32⟩ : BufTy).Contents (Elt F) → (⟨S8x16x8x64, .f32⟩ : BufTy).Contents (Elt F) → (⟨S8x16x8x64, .f32⟩ : BufTy).Contents (Elt F)),
  StableHlo.reshape main_v51 main_v52 (rfl : (.f32 : EltTy) = .f32) shapeCasts_S8x16x8x64_S128x512,
  StableHlo.reshape main_arg3 main_v53 (rfl : (.f32 : EltTy) = .f32) shapeCasts_S64_S1x64,
  StableHlo.unary main_v53 main_v54 (broadcastInDim S8x64 ![0, 1] bcast_S1x64_S8x64_0_1 : (⟨S1x64, .f32⟩ : BufTy).Contents (Elt F) → (⟨S8x64, .f32⟩ : BufTy).Contents (Elt F)),
  StableHlo.reshape main_v54 main_v55 (rfl : (.f32 : EltTy) = .f32) shapeCasts_S8x64_S512,
  StableHlo.reshape main_v55 main_v56 (rfl : (.f32 : EltTy) = .f32) shapeCasts_S512_S1x512,
  StableHlo.unary main_v38 main_v57 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_arg4 main_v58 (broadcastInDim S1x64x1x32 ![1, 3] bcast_S64x32_S1x64x1x32_1_3 : (⟨S64x32, .f32⟩ : BufTy).Contents (Elt F) → (⟨S1x64x1x32, .f32⟩ : BufTy).Contents (Elt F)),
  StableHlo.unary main_v57 main_v59 (broadcastInDim S8x64x8x32 ![0, 1, 2, 3] bcast_S8x1x8x1_S8x64x8x32_0_1_2_3 : (⟨S8x1x8x1, .f32⟩ : BufTy).Contents (Elt F) → (⟨S8x64x8x32, .f32⟩ : BufTy).Contents (Elt F)),
  StableHlo.unary main_v58 main_v60 (broadcastInDim S8x64x8x32 ![0, 1, 2, 3] bcast_S1x64x1x32_S8x64x8x32_0_1_2_3 : (⟨S1x64x1x32, .f32⟩ : BufTy).Contents (Elt F) → (⟨S8x64x8x32, .f32⟩ : BufTy).Contents (Elt F)),
  StableHlo.binary main_v59 main_v60 main_v61 (mulf : (⟨S8x64x8x32, .f32⟩ : BufTy).Contents (Elt F) → (⟨S8x64x8x32, .f32⟩ : BufTy).Contents (Elt F) → (⟨S8x64x8x32, .f32⟩ : BufTy).Contents (Elt F)),
  StableHlo.reshape main_v61 main_v62 (rfl : (.f32 : EltTy) = .f32) shapeCasts_S8x64x8x32_S512x256,
  StableHlo.reshape main_arg5 main_v63 (rfl : (.f32 : EltTy) = .f32) shapeCasts_S32_S1x32,
  StableHlo.unary main_v63 main_v64 (broadcastInDim S8x32 ![0, 1] bcast_S1x32_S8x32_0_1 : (⟨S1x32, .f32⟩ : BufTy).Contents (Elt F) → (⟨S8x32, .f32⟩ : BufTy).Contents (Elt F)),
  StableHlo.reshape main_v64 main_v65 (rfl : (.f32 : EltTy) = .f32) shapeCasts_S8x32_S256,
  StableHlo.reshape main_v65 main_v66 (rfl : (.f32 : EltTy) = .f32) shapeCasts_S256_S1x256,
  StableHlo.unary main_v38 main_v67 (broadcastInDim S8x1x8x1 ![0, 2] bcast_S8x8_S8x1x8x1_0_2 : (⟨S8x8, .f32⟩ : BufTy).Contents (Elt F) → (⟨S8x1x8x1, .f32⟩ : BufTy).Contents (Elt F)),
  StableHlo.unary main_arg6 main_v68 (broadcastInDim S1x32x1x16 ![1, 3] bcast_S32x16_S1x32x1x16_1_3 : (⟨S32x16, .f32⟩ : BufTy).Contents (Elt F) → (⟨S1x32x1x16, .f32⟩ : BufTy).Contents (Elt F)),
  StableHlo.unary main_v67 main_v69 (broadcastInDim S8x32x8x16 ![0, 1, 2, 3] bcast_S8x1x8x1_S8x32x8x16_0_1_2_3 : (⟨S8x1x8x1, .f32⟩ : BufTy).Contents (Elt F) → (⟨S8x32x8x16, .f32⟩ : BufTy).Contents (Elt F)),
  StableHlo.unary main_v68 main_v70 (broadcastInDim S8x32x8x16 ![0, 1, 2, 3] bcast_S1x32x1x16_S8x32x8x16_0_1_2_3 : (⟨S1x32x1x16, .f32⟩ : BufTy).Contents (Elt F) → (⟨S8x32x8x16, .f32⟩ : BufTy).Contents (Elt F)),
  StableHlo.binary main_v69 main_v70 main_v71 (mulf : (⟨S8x32x8x16, .f32⟩ : BufTy).Contents (Elt F) → (⟨S8x32x8x16, .f32⟩ : BufTy).Contents (Elt F) → (⟨S8x32x8x16, .f32⟩ : BufTy).Contents (Elt F)),
  StableHlo.reshape main_v71 main_v72 (rfl : (.f32 : EltTy) = .f32) shapeCasts_S8x32x8x16_S256x128,
  StableHlo.reshape main_arg7 main_v73 (rfl : (.f32 : EltTy) = .f32) shapeCasts_S16_S1x16,
  StableHlo.unary main_v73 main_v74 (broadcastInDim S8x16 ![0, 1] bcast_S1x16_S8x16_0_1 : (⟨S1x16, .f32⟩ : BufTy).Contents (Elt F) → (⟨S8x16, .f32⟩ : BufTy).Contents (Elt F)),
  StableHlo.reshape main_v74 main_v75 (rfl : (.f32 : EltTy) = .f32) shapeCasts_S8x16_S128,
  StableHlo.reshape main_v75 main_v76 (rfl : (.f32 : EltTy) = .f32) shapeCasts_S128_S1x128,
  StableHlo.unary main_v38 main_v77 (broadcastInDim S8x1x8 ![0, 2] bcast_S8x8_S8x1x8_0_2 : (⟨S8x8, .f32⟩ : BufTy).Contents (Elt F) → (⟨S8x1x8, .f32⟩ : BufTy).Contents (Elt F)),
  StableHlo.unary main_arg8 main_v78 ((extractStridedSlice S16x1 ![0, 0] · slices_S32x1_S16x1_0_0) : (⟨S32x1, .f32⟩ : BufTy).Contents (Elt F) → (⟨S16x1, .f32⟩ : BufTy).Contents (Elt F)),
  StableHlo.reshape main_v78 main_v79 (rfl : (.f32 : EltTy) = .f32) shapeCasts_S16x1_S16,
  StableHlo.unary main_v79 main_v80 (broadcastInDim S1x16x1 ![1] bcast_S16_S1x16x1_1 : (⟨S16, .f32⟩ : BufTy).Contents (Elt F) → (⟨S1x16x1, .f32⟩ : BufTy).Contents (Elt F)),
  StableHlo.unary main_v77 main_v81 (broadcastInDim S8x16x8 ![0, 1, 2] bcast_S8x1x8_S8x16x8_0_1_2 : (⟨S8x1x8, .f32⟩ : BufTy).Contents (Elt F) → (⟨S8x16x8, .f32⟩ : BufTy).Contents (Elt F)),
  StableHlo.unary main_v80 main_v82 (broadcastInDim S8x16x8 ![0, 1, 2] bcast_S1x16x1_S8x16x8_0_1_2 : (⟨S1x16x1, .f32⟩ : BufTy).Contents (Elt F) → (⟨S8x16x8, .f32⟩ : BufTy).Contents (Elt F)),
  StableHlo.binary main_v81 main_v82 main_v83 (mulf : (⟨S8x16x8, .f32⟩ : BufTy).Contents (Elt F) → (⟨S8x16x8, .f32⟩ : BufTy).Contents (Elt F) → (⟨S8x16x8, .f32⟩ : BufTy).Contents (Elt F)),
  StableHlo.reshape main_v83 main_v84 (rfl : (.f32 : EltTy) = .f32) shapeCasts_S8x16x8_S128x8,
  StableHlo.unary main_v38 main_v85 (broadcastInDim S8x1x8 ![0, 2] bcast_S8x8_S8x1x8_0_2 : (⟨S8x8, .f32⟩ : BufTy).Contents (Elt F) → (⟨S8x1x8, .f32⟩ : BufTy).Contents (Elt F)),
  StableHlo.unary main_arg8 main_v86 ((extractStridedSlice S16x1 ![16, 0] · slices_S32x1_S16x1_16_0) : (⟨S32x1, .f32⟩ : BufTy).Contents (Elt F) → (⟨S16x1, .f32⟩ : BufTy).Contents (Elt F)),
  StableHlo.reshape main_v86 main_v87 (rfl : (.f32 : EltTy) = .f32) shapeCasts_S16x1_S16,
  StableHlo.unary main_v87 main_v88 (broadcastInDim S1x16x1 ![1] bcast_S16_S1x16x1_1 : (⟨S16, .f32⟩ : BufTy).Contents (Elt F) → (⟨S1x16x1, .f32⟩ : BufTy).Contents (Elt F)),
  StableHlo.unary main_v85 main_v89 (broadcastInDim S8x16x8 ![0, 1, 2] bcast_S8x1x8_S8x16x8_0_1_2 : (⟨S8x1x8, .f32⟩ : BufTy).Contents (Elt F) → (⟨S8x16x8, .f32⟩ : BufTy).Contents (Elt F)),
  StableHlo.unary main_v88 main_v90 (broadcastInDim S8x16x8 ![0, 1, 2] bcast_S1x16x1_S8x16x8_0_1_2 : (⟨S1x16x1, .f32⟩ : BufTy).Contents (Elt F) → (⟨S8x16x8, .f32⟩ : BufTy).Contents (Elt F)),
  StableHlo.binary main_v89 main_v90 main_v91 (mulf : (⟨S8x16x8, .f32⟩ : BufTy).Contents (Elt F) → (⟨S8x16x8, .f32⟩ : BufTy).Contents (Elt F) → (⟨S8x16x8, .f32⟩ : BufTy).Contents (Elt F)),
  StableHlo.reshape main_v91 main_v92 (rfl : (.f32 : EltTy) = .f32) shapeCasts_S8x16x8_S128x8,
  StableHlo.reshape main_arg9 main_v93 (rfl : (.f32 : EltTy) = .f32) shapeCasts_S1_S1x1]

/-- The buffers they write. -/
abbrev midOpsW : List (Ref sig .tc) := [main_v33, main_v34, main_c_7, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93]

/-- The operation after it: the results as a vector. -/
def postOps : List (HloOp τ sig (Elt F)) := [
  StableHlo.reshape main_v94 main_v95 (rfl : (.f32 : EltTy) = .f32) shapeCasts_S2048x8_S16384]

/-- The buffers they write. -/
abbrev postOpsW : List (Ref sig .tc) := [main_v95]

/-! ## The program as the lists -/

set_option maxRecDepth 20000 in
set_option maxHeartbeats 4000000 in
/-- The program: the first operations, the gather, the weights, the perceptron, the result. -/
theorem main_eq (d : Dev nD) :
    main (F := F) d = (seq preOps >>= fun _ => sc.run d 0 >>= fun _ => seq midOps >>= fun _ =>
      Prog.lift (.customCall (SparseCore.inner (Pipeline.entry 0)) ()) >>= fun _ => seq postOps >>= fun _ => pure ⟨⟩) := rfl

/-! ## What the lists touch -/

set_option maxRecDepth 20000 in
/-- The first operations write their listed buffers. -/
theorem preOps_writes : (preOps (F := F)).Forall fun op => op.writes ⊆ (preOpsW.map (Proc.devRef (τ := τ) .tc)).toFinset :=
  forall_writes_sub_of_map rfl

set_option maxRecDepth 20000 in
/-- The middle operations write their listed buffers. -/
theorem midOps_writes : (midOps (F := F)).Forall fun op => op.writes ⊆ (midOpsW.map (Proc.devRef (τ := τ) .tc)).toFinset :=
  forall_writes_sub_of_map rfl

/-- The last operation writes its listed buffer. -/
theorem postOps_writes : (postOps (F := F)).Forall fun op => op.writes ⊆ (postOpsW.map (Proc.devRef (τ := τ) .tc)).toFinset :=
  forall_writes_sub_of_map rfl

set_option maxRecDepth 20000 in
/-- The first operations leave no buffer to the machine's choice. -/
theorem preOps_fresh : ∀ op ∈ preOps (F := F), op.fresh = ∅ := List.forall_iff_forall_mem.mp (forall_fresh_of_map rfl)

set_option maxRecDepth 20000 in
/-- Nor do the middle ones. -/
theorem midOps_fresh : ∀ op ∈ midOps (F := F), op.fresh = ∅ := List.forall_iff_forall_mem.mp (forall_fresh_of_map rfl)

/-- Nor does the last. -/
theorem postOps_fresh : ∀ op ∈ postOps (F := F), op.fresh = ∅ := List.forall_iff_forall_mem.mp (forall_fresh_of_map rfl)

/-- The first operations touch the thread's own buffers only. -/
theorem preOps_bufs : ∀ op ∈ preOps (F := F), op.bufs ⊆ Pipeline.ucRefs τ sig := by
  refine List.forall_iff_forall_mem.mp (List.Forall.imp (fun op h => Pipeline.sub_ucRefs op h) ?_)
  simp only [preOps, List.Forall, nullary_bufs_sub, unary_bufs_sub, binary_bufs_sub, reshape_bufs_sub, and_self]

/-- So do the middle ones. -/
theorem midOps_bufs : ∀ op ∈ midOps (F := F), op.bufs ⊆ Pipeline.ucRefs τ sig := by
  refine List.forall_iff_forall_mem.mp (List.Forall.imp (fun op h => Pipeline.sub_ucRefs op h) ?_)
  simp only [midOps, List.Forall, nullary_bufs_sub, unary_bufs_sub, binary_bufs_sub, reshape_bufs_sub, and_self]

/-- So does the last. -/
theorem postOps_bufs : ∀ op ∈ postOps (F := F), op.bufs ⊆ Pipeline.ucRefs τ sig := by
  refine List.forall_iff_forall_mem.mp (List.Forall.imp (fun op h => Pipeline.sub_ucRefs op h) ?_)
  simp only [postOps, List.Forall, reshape_bufs_sub]

end Cert.Proof.Host

end
-- ==== Proof.Rows.lean ====
/- The views the gather kernel's tile works through, by coordinates: row `r` of a 128-by-128 scratch, the whole table, and
   the tile's block of 128 rows of a 4096-by-128 array. -/
module

public import proofs.«01_k».proof.Proof.Setup

@[expose] public section

noncomputable section

namespace Cert.Proof.Sc

open Cert.KernelIdeal Cert.KernelIdeal.Gen Cert.Proof.GatherBody

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The index of row `r`, column `l` of a scratch. -/
def rc (r l : Fin 128) : S128x128.Idx := Shape.pair (d := ![128, 128]) r l

/-- Element `x` of row `r` of a scratch is the scratch's element `(r, x)`. -/
theorem row_emb_aux (r : Fin 128) (x : S128.Idx) :
    (Rect.unit (s := S128x128) (k0_off2 (BitVec.ofNat 32 r.val)) S1x128.size (k0_off2_inb r)).emb
      (Shape.reshapeEquiv squeezes_S1x128_S128.numel_eq x) = rc r (x 0) := by
  rw [show Shape.reshapeEquiv squeezes_S1x128_S128.numel_eq x = (Fin.cons ⟨0, by decide⟩ x : S1x128.Idx) from
    Shape.reshapeEquiv_cons_one squeezes_S1x128_S128.numel_eq x]
  funext a
  apply Fin.ext
  rw [Rect.emb_apply]
  match a with
  | 0 => show k0_off2 (BitVec.ofNat 32 r.val) 0 + 1 * 0 = r.val; rw [k0_off2_eq]; rfl
  | 1 => show k0_off2 (BitVec.ofNat 32 r.val) 1 + 1 * (x 0).val = (x 0).val; rw [k0_off2_eq]; show 0 + 1 * (x 0).val = (x 0).val; omega

/-- Element `x` of row `r` of the rows' scratch is `(r, x)`, -/
theorem rowAt_emb (r : Fin 128) (x : S128.Idx) : (rowAt rV r).view.emb x = rc r (x 0) := row_emb_aux r x
/-- and so is that of the list's scratch. -/
theorem listAt_emb (r : Fin 128) (x : S128.Idx) : (listAt sV r).view.emb x = rc r (x 0) := row_emb_aux r x

/-- The elements of row `r` are those whose first coordinate is `r`. -/
def rowSet (r : Fin 128) : Finset S128x128.Idx := Finset.univ.filter fun x : S128x128.Idx => (x 0).val = r.val

/-- An index is its row and its column. -/
theorem rc_eta (x : S128x128.Idx) : rc (x 0) (x 1) = x := (Shape.pair_eta (d := ![128, 128]) x)

/-- Row `r` of the rows' scratch is the elements of row `r`, -/
theorem rowAt_set (r : Fin 128) : (rowAt rV r).view.set = rowSet r := by
  ext x
  simp only [View.set, Finset.mem_map, Finset.mem_univ, true_and, rowSet, Finset.mem_filter]
  constructor
  · rintro ⟨y, rfl⟩; rw [rowAt_emb]; rfl
  · intro h
    refine ⟨(fun a => match a with | 0 => (x 1 : Fin 128) : S128.Idx), ?_⟩
    rw [rowAt_emb]
    have hr : r = (x 0 : Fin 128) := Fin.ext h.symm
    rw [hr]; exact rc_eta x
/-- and so is the list's. -/
theorem listAt_set (r : Fin 128) : (listAt sV r).view.set = rowSet r := by
  ext x
  simp only [View.set, Finset.mem_map, Finset.mem_univ, true_and, rowSet, Finset.mem_filter]
  constructor
  · rintro ⟨y, rfl⟩; rw [listAt_emb]; rfl
  · intro h
    refine ⟨(fun a => match a with | 0 => (x 1 : Fin 128) : S128.Idx), ?_⟩
    rw [listAt_emb]
    have hr : r = (x 0 : Fin 128) := Fin.ext h.symm
    rw [hr]; exact rc_eta x

/-- Two rows share no element, -/
theorem rowSet_disjoint (i : Fin 128) (_ : i ∈ (Finset.univ : Finset (Fin 128))) (j : Fin 128) (_ : j ∈ (Finset.univ : Finset (Fin 128)))
    (h : i ≠ j) : Disjoint (rowSet i) (rowSet j) := by
  rw [Finset.disjoint_left]
  intro x hx hy
  simp only [rowSet, Finset.mem_filter, Finset.mem_univ, true_and] at hx hy
  exact h (Fin.ext (hx.symm.trans hy))

/-- and the rows are the whole scratch. -/
theorem rowSet_union : (Finset.univ : Finset (Fin 128)).biUnion rowSet = Finset.univ := by
  ext x
  simp only [Finset.mem_biUnion, Finset.mem_univ, true_and, iff_true, rowSet, Finset.mem_filter]
  exact ⟨(x 0 : Fin 128), rfl⟩

/-! ## The table -/

/-- The table's view reads element `x` at `x` -/
theorem tvAll_emb (x : S32000000.Idx) : (tvAll tV).view.emb x = x := by
  funext a
  apply Fin.ext
  match a with
  | 0 => show (![0] : Fin 1 → ℕ) 0 + 1 * (x 0).val = (x 0).val; show 0 + 1 * (x 0).val = (x 0).val; omega

/-- and covers the table. -/
theorem tvAll_set : (tvAll tV).view.set = Finset.univ := by
  ext x
  simp only [View.set, Finset.mem_map, Finset.mem_univ, true_and, iff_true]
  exact ⟨x, tvAll_emb x⟩

/-! ## The tile's block -/

variable (L : grid0.Coords)

/-- There are two cores -/
theorem L0_lt : (L 0).val < 2 := (L 0).isLt
/-- and sixteen tiles on each. -/
theorem L1_lt : (L 1).val < 16 := (L 1).isLt

/-- The block of the tile at grid coordinates `L`. -/
abbrev wL : Fin 32 := wid ⟨(L 0).val, L0_lt L⟩ ⟨(L 1).val, L1_lt L⟩

/-- Row `r`, column `l` of block `w` of a 4096-by-128 array. -/
def brc (w : Fin 32) (x : S128x128.Idx) : S4096x128.Idx :=
  Shape.pair (d := ![4096, 128]) ⟨128 * w.val + (x 0).val, by have : (x 0).val < 128 := (x 0).isLt; have := w.isLt; show _ < 4096; omega⟩ (x 1)

/-- Element `x` of the tile's rectangle is block `wL L`'s element `x`, -/
theorem block_emb_aux (x : S128x128.Idx) :
    (Rect.unit (s := S4096x128) (k0_off1 L) S128x128.size (k0_off1_inb L)).emb x = brc (wL L) x := by
  funext a
  apply Fin.ext
  rw [Rect.emb_apply]
  match a with
  | 0 =>
    show k0_off1 L 0 + 1 * (x 0).val = 128 * (2 * (L 1).val + (L 0).val) + (x 0).val
    rw [k0_off1_eq]
    show 256 * (L 1).val + 128 * (L 0).val + 1 * (x 0).val = _
    omega
  | 1 =>
    show k0_off1 L 1 + 1 * (x 1).val = (x 1).val
    rw [k0_off1_eq]
    show 0 + 1 * (x 1).val = _
    omega

/-- in the positions -/
theorem idxBlock_emb (x : S128x128.Idx) : (idxBlock L wV).view.emb x = brc (wL L) x := block_emb_aux L x
/-- and in the result. -/
theorem outBlock_emb (x : S128x128.Idx) : (outBlock L oV).view.emb x = brc (wL L) x := block_emb_aux L x

/-- The tile's rectangle is block `wL L`, -/
theorem k0_off1_rect : Rect.unit (s := S4096x128) (k0_off1 L) S128x128.size (k0_off1_inb L) = blk (wL L) := by
  unfold blk Rect.part Rect.block
  congr 1 <;> funext a
  · rw [k0_off1_eq]
    match a with
    | 0 => show 256 * (L 1).val + 128 * (L 0).val = (2 * (L 1).val + (L 0).val) * (4096 / 32); omega
    | 1 => simp [Shape.partIx, Shape.partSize]
  · match a with
    | 0 => simp [Shape.partSize]
    | 1 => simp [Shape.partSize]

/-- so its positions are that block's -/
theorem idxBlock_set : (idxBlock L wV).view.set = wSet (wL L) := by
  show ((wV).view.slice (Rect.unit (s := S4096x128) (k0_off1 L) S128x128.size (k0_off1_inb L))).set = _
  rw [k0_off1_rect]
/-- and its result too. -/
theorem outBlock_set : (outBlock L oV).view.set = oSet (wL L) := by
  show ((oV).view.slice (Rect.unit (s := S4096x128) (k0_off1 L) S128x128.size (k0_off1_inb L))).set = _
  rw [k0_off1_rect]

end Cert.Proof.Sc
-- ==== Proof.Tile.lean ====
/- One tile's task of the gather kernel: its block of the index array is copied in, 128 gathers of 128 elements are issued
   on one semaphore, 128 waits take what they credit, and the gathered rows are copied out.

   All 16384 element transfers of the 128 gathers are the transfers of ONE counted batch: entry `l` of gather `j` is
   transfer `128 j + l`. -/
module

public import proofs.«01_k».proof.Proof.Rows

@[expose] public section

noncomputable section

namespace Cert.Proof.Sc

open Cert.KernelIdeal Cert.KernelIdeal.Gen Cert.Proof.GatherBody Cert.Proof.GatherBatch

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : (d : Dev nD) → Buf (Elt F) (wLoc d)) (T₀ : (d : Dev nD) → Buf (Elt F) (tLoc d)) (d : Dev nD) (L : grid0.Coords)

/-- The tile's core -/
abbrev cV : Fin τ.nSC := (L 0).castLE hcore0
/-- and its number on it. -/
abbrev jV : Fin τ.nSub := (L 1).castLE hsub0
/-- The tile's thread. -/
abbrev tV' : Thread nD τ := V d (cV L) (jV L)

/-! ## What the scratches hold -/

/-- The index scratch after the copy in: the tile's block of the index array. -/
def idxF : Buf (Elt F) ((sV).view.loc (tV' d L)) := fun x : S128x128.Idx => (I d (brc (wL L) x) : BitVec 32)
/-- The gathered rows' scratch after the gathers. -/
def rowF : Buf (Elt F) ((rV).view.loc (tV' d L)) := fun x : S128x128.Idx => (T₀ d (tIdx (BitVec.toNat (I d (brc (wL L) x) : BitVec 32))) : F .f32)

/-- Word `x` of list `j`. -/
theorem list_read (j : Fin 128) (x : S128.Idx) :
    (listAt sV j).view.read (Elt F) (idxF I d L) x = (I d (brc (wL L) (rc j (x 0))) : BitVec 32) := by
  rw [View.read_apply]
  refine (cast_eq _ _).trans ?_
  show idxF I d L ((listAt sV j).view.emb x) = _
  rw [listAt_emb]; rfl

/-- The lists name elements of the table. -/
theorem list_in (hI : InRange I) (j : Fin 128) (x : S128.Idx) :
    ((listAt sV j).view.read (Elt F) (idxF I d L) x).toNat < S32000000.size gathers_S32000000_S128.axis := by
  rw [list_read]; exact hI d _

/-- The elements gather `j`'s list names. -/
abbrev rws (hI : InRange I) (j : Fin 128) : Fin (S128.size gathers_S32000000_S128.axis') → Fin (S32000000.size gathers_S32000000_S128.axis) :=
  SparseCore.rows ((listAt sV j).view.read (Elt F) (idxF I d L)) rfl (list_in I d L hI j)

/-- The coordinate of a vector's row-major index is the index. -/
theorem one_symm (k : Fin 128) : (S128.rowMajor.symm (Fin.cast (show 128 = S128.numel from rfl) k) 0).val = k.val := by
  have h := Shape.rowMajor_val_one (d := ![128]) (S128.rowMajor.symm (Fin.cast (show 128 = S128.numel from rfl) k))
  rw [Equiv.apply_symm_apply] at h
  exact h.symm

/-- What gather `j` puts at element `x` of its row: the table at the index array's word `(j, x)`. -/
theorem payload_eq (hI : InRange I) (j : Fin 128) (x : S128.Idx) :
    SparseCore.gatherPayload gathers_S32000000_S128 ((tvAll tV).view.read (Elt F) (T₀ d)) (rws I d L hI j) x = rowF I T₀ d L (rc j (x 0)) := by
  show (tvAll tV).view.read (Elt F) (T₀ d) (gathers_S32000000_S128.idx (rws I d L hI j) x) = _
  rw [View.read_apply]
  refine (cast_eq _ _).trans ?_
  show T₀ d ((tvAll tV).view.emb (gathers_S32000000_S128.idx (rws I d L hI j) x)) = _
  rw [tvAll_emb]
  show _ = T₀ d (tIdx (BitVec.toNat (I d (brc (wL L) (rc j (x 0))) : BitVec 32)))
  congr 1
  funext a
  match a with
  | 0 =>
    apply Fin.ext
    have h := congrArg Fin.val (Shape.Gathers.idx_axis gathers_S32000000_S128 (rws I d L hI j) x)
    refine h.trans ?_
    show BitVec.toNat ((listAt sV j).view.read (Elt F) (idxF I d L) _) = BitVec.toNat (I d (brc (wL L) (rc j (x 0))) : BitVec 32) % 32000000
    rw [list_read, Nat.mod_eq_of_lt (hI d _)]
    exact congrArg (fun k : Fin 128 => BitVec.toNat (I d (brc (wL L) (rc j k)) : BitVec 32)) (Fin.ext (one_symm (x 0)))

/-- A row of the scratch written whole with what its gather brings holds what the scratch is to hold. -/
theorem row_pts (hI : InRange I) (j : Fin 128) (fr : Buf (Elt F) ((rV).view.loc (tV' d L))) :
    ((rowAt rV j).view.loc (tV' d L) ↦[(rowAt rV j).view.set]{fullShare}
        (rowAt rV j).view.write (Elt F) fr (SparseCore.gatherPayload gathers_S32000000_S128 ((tvAll tV).view.read (Elt F) (T₀ d)) (rws I d L hI j)) Finset.univ : sProp 𝕄)
      = ((rV).view.loc (tV' d L) ↦[rowSet j]{fullShare} rowF I T₀ d L) := by
  rw [← rowAt_set j]
  refine pointsTo_congr ?_
  intro x hx
  obtain ⟨y, -, rfl⟩ := Finset.mem_map.mp hx
  rw [View.write_emb_of_mem _ _ (Finset.mem_univ _)]
  refine (cast_eq _ _).trans ?_
  rw [payload_eq, rowAt_emb]

/-! ## The batch -/

/-- Gather `j`'s share of the table. -/
abbrev gq (w : Fin 32) (j : Fin 128) : PosShare TreeShare := pieceOf (tq w) 128 (by omega) j

/-- What entry `l` of gather `j` delivers. -/
def ent (hI : InRange I) (fr : Buf (Elt F) ((rV).view.loc (tV' d L))) (j : Fin 128) (l : Fin 128) : sProp 𝕄 :=
  delivery (tV' d L) (tvAll tV) (rowAt rV j) gathers_S32000000_S128 (listAt sV j) rfl
    (pieceOf (gq (wL L) j) (S128.size gathers_S32000000_S128.axis') (by decide)) fullShare (T₀ d) fr (idxF I d L) (rws I d L hI j) l

/-- An entry's delivery may be held by an invariant, -/
instance ent_storable (hI : InRange I) (fr : Buf (Elt F) ((rV).view.loc (tV' d L))) (j l : Fin 128) :
    BI.Storable (upEmb : UEmb _ 𝕄) (ent I T₀ d L hI fr j l) :=
  delivery_storable (c := tV' d L) (src := tvAll tV) (dst := rowAt rV j) (hg := gathers_S32000000_S128) (offs := listAt sV j) (hn := rfl) l

/-- What the batch's transfer `128 j + l` delivers. -/
def dlv (hI : InRange I) (fr : Buf (Elt F) ((rV).view.loc (tV' d L))) (t : Fin (128 * 128)) : sProp 𝕄 :=
  ent I T₀ d L hI fr t.divNat t.modNat

/-- and so may a transfer's. -/
instance dlv_storable (hI : InRange I) (fr : Buf (Elt F) ((rV).view.loc (tV' d L))) (t : Fin (128 * 128)) :
    BI.Storable (upEmb : UEmb _ 𝕄) (dlv I T₀ d L hI fr t) := by unfold dlv; infer_instance

/-- What one element's transfer credits. -/
def cred : ℕ := ((rowAt rV 0).slice (S128.rowRect gathers_S32000000_S128.axis' ⟨0, by decide⟩)
  (S128.stride_rowRect gathers_S32000000_S128.axis' ⟨0, by decide⟩)).view.dmaCredit

/-- It is the same for every element. -/
theorem cred_eq (j : Fin 128) (l : Fin (S128.size gathers_S32000000_S128.axis')) :
    ((rowAt rV j).slice (S128.rowRect gathers_S32000000_S128.axis' l) (S128.stride_rowRect gathers_S32000000_S128.axis' l)).view.dmaCredit = cred := rfl

/-- It is not zero. -/
theorem cred_pos : 0 < cred := by decide

/-- A row's is 128 times an element's. -/
theorem cred_row (m : Memref sig .scVector .vmem S128 .f32) : m.view.dmaCredit = 128 * cred := rfl

/-- Gather `j`'s operands: its share of the table, its row of the scratch, its list. -/
def opsP (fr : Buf (Elt F) ((rV).view.loc (tV' d L))) (j : Fin 128) : sProp 𝕄 :=
  iprop(((tvAll tV).view.loc (tV' d L) ↦[(tvAll tV).view.set]{gq (wL L) j} T₀ d)
    ∗ ((rowAt rV j).view.loc (tV' d L) ↦[(rowAt rV j).view.set]{fullShare} fr)
    ∗ ((listAt sV j).view.loc (tV' d L) ↦[(listAt sV j).view.set]{fullShare} idxF I d L))

variable [FloatOps F]

/-- The batch of the gathers with `j` transfers issued and `u` credit taken. -/
abbrev bat (hI : InRange I) (fr : Buf (Elt F) ((rV).view.loc (tV' d L))) (j u : ℕ) : sProp 𝕄 :=
  Batch (countersEmb (U := UU)) (tV' d L) (.dma cc0_scratch2.sem) (default : HIx 1) cred (dlv I T₀ d L hI fr) j u

/-- The last `n` gathers: each takes its operands and issues its 128 transfers of the batch. -/
theorem wp_issues (hI : InRange I) (fr : Buf (Elt F) ((rV).view.loc (tV' d L))) (k : TileProg F L) (Q : PUnit → sProp 𝕄) :
    ∀ (n : ℕ) (h : n ≤ 128),
      iprop(bigSep (pending (n := 128) (128 - n)) (opsP I T₀ d L fr) ∗ bat I T₀ d L hI fr (128 * (128 - n)) 0)
        ⊢ iprop((bat I T₀ d L hI fr (128 * 128) 0 -∗ wp frame (wpE (defs₀ (F := F)) 𝒱₀ (tV' d L) none) Set.univ k Q)
            -∗ wp frame (wpE (defs₀ (F := F)) 𝒱₀ (tV' d L) none) Set.univ (issues L tV sV rV cc0_scratch2 n h k) Q)
  | 0, h => by
    iintro ⟨-, HB⟩ Hk
    iapply Hk; iexact HB
  | n + 1, h => by
    have hlt : 128 - (n + 1) < 128 := by omega
    have hsucc : 128 - (n + 1) + 1 = 128 - n := by omega
    have hmul : 128 * (128 - (n + 1)) + 128 = 128 * (128 - n) := by omega
    have IH := wp_issues hI fr k Q n (by omega)
    have hD : ∀ i : Fin (S128.size gathers_S32000000_S128.axis'),
        ent I T₀ d L hI fr ⟨128 - (n + 1), hlt⟩ i ⊢ dlv I T₀ d L hI fr ⟨128 * (128 - (n + 1)) + i.val, by have : i.val < 128 := i.isLt; omega⟩ := by
      intro i
      have hi : i.val < 128 := i.isLt
      refine Entails.of_eq ?_
      show _ = ent I T₀ d L hI fr _ _
      congr 1
      · apply Fin.ext; show 128 - (n + 1) = (128 * (128 - (n + 1)) + i.val) / 128; omega
      · apply Fin.ext; show i.val = (128 * (128 - (n + 1)) + i.val) % 128; omega
    have hg := wp_gatherBatch (countersEmb (U := UU)) (defs := defs₀ (F := F)) 𝒱₀ (tV' d L) none
      (src := tvAll tV) (dst := rowAt rV ⟨128 - (n + 1), hlt⟩) (hg := gathers_S32000000_S128) (offs := listAt sV ⟨128 - (n + 1), hlt⟩) (hn := rfl)
      (sem := cc0_scratch2.sem) (hp := rfl) (hsrc := View.wordExact_bits rfl) (he := rfl) (hsp := Or.inl rfl) (hr := by decide)
      (k := fun _ => issues L tV sV rV cc0_scratch2 n (by omega) k) (Q := Q)
      (q := gq (wL L) ⟨128 - (n + 1), hlt⟩) (qo := fullShare) (fs := T₀ d) (fd := fr) (fo := idxF I d L)
      (D := dlv I T₀ d L hI fr) (j := 128 * (128 - (n + 1))) (u := 0)
      (default : HIx 1) cred (cred_eq _) (by decide) (list_in I d L hI _) (by show 128 * (128 - (n + 1)) + 128 ≤ 128 * 128; omega) (Nat.zero_le _) hD
    rw [bigSep_pending_step (n := 128) _ _ hlt, hsucc]
    iintro ⟨⟨Ho, Hos⟩, HB⟩ Hk
    unfold opsP
    icases Ho with ⟨Ht, Hr, Hl⟩
    iapply hg $$ [Ht Hr Hl HB]
    · isplitl [Ht]; · iexact Ht
      isplitl [Hr]; · iexact Hr
      isplitl [Hl]; · iexact Hl
      iexact HB
    iintro HB
    iapply IH $$ [Hos HB]
    · isplitl [Hos]; · iexact Hos
      rw [← hmul]; iexact HB
    iexact Hk

/-- The waits: 128 of them take what the 16384 transfers credit. -/
theorem wp_drain (hI : InRange I) (fr : Buf (Elt F) ((rV).view.loc (tV' d L))) (O : CellTallies nD τ sig (HIx 1)) (W : Waits sig (HIx 1))
    (hO : ∀ g, O g none = 0) (k : TileProg F L) (Q : PUnit → sProp 𝕄) :
    iprop(levAts (K (F := F)).L (K (F := F)).lev ∗ bat I T₀ d L hI fr (128 * 128) 0
        ∗ ∃ W', ⌜∀ p ∈ W', p ∈ W ∨ p.2 = none⌝ ∗ owes (tV' d L) O W')
      ⊢ iprop((iprop(bat I T₀ d L hI fr (128 * 128) (cred * (128 * 128)) ∗ ∃ W', ⌜∀ p ∈ W', p ∈ W ∨ p.2 = none⌝ ∗ owes (tV' d L) O W')
            -∗ wp frame (wpE (defs₀ (F := F)) 𝒱₀ (tV' d L) none) Set.univ k Q)
          -∗ wp frame (wpE (defs₀ (F := F)) 𝒱₀ (tV' d L) none) Set.univ (drain L tV rV cc0_scratch2 k) Q) := by
  let J : ℕ → PUnit → sProp 𝕄 := fun t _ => iprop(levAts (K (F := F)).L (K (F := F)).lev ∗ bat I T₀ d L hI fr (128 * 128) (t * (128 * cred))
    ∗ ∃ W', ⌜∀ p ∈ W', p ∈ W ∨ p.2 = none⌝ ∗ owes (tV' d L) O W')
  have hbody : ∀ (t : Fin k0_t1_loop.trips) (acc : PUnit),
      J t acc ⊢ wp frame (wpE (defs₀ (F := F)) 𝒱₀ (tV' d L) none) Set.univ (drainOne L tV rV cc0_scratch2 t) (J (t.val + 1)) := by
    intro t acc
    have ht : t.val < 128 := t.isLt
    have hu : t.val * (128 * cred) + 128 * cred ≤ cred * (128 * 128) := by
      have h1 : (t.val + 1) * (128 * cred) ≤ 128 * (128 * cred) := Nat.mul_le_mul_right _ (by omega)
      rw [Nat.add_mul] at h1
      calc _ ≤ 128 * (128 * cred) := by omega
        _ = cred * (128 * 128) := by omega
    have hw := fun W' => wp_waitBatchMulO (countersEmb (U := UU)) (defs := defs₀ (F := F)) 𝒱₀ (tV' d L) none
      (sem := cc0_scratch2.sem) (srcw := tvAll tV)
      (dstw := (rV.slice (Rect.unit (s := S128x128) (k0_off3 t) S1x128.size (k0_off3_inb t)) (fun _ => rfl)).squeeze S128 squeezes_S1x128_S128)
      (hsrc := View.wordExact_bits rfl) (hdst := (View.wordExact_bits rfl).reshape _ _)
      (k := fun x => (pure x : TileProg F L)) (Q := J (t.val + 1))
      (default : HIx 1) (N := cred) 128 (cred_row _) (D := dlv I T₀ d L hI fr) (j := 128 * 128) (u := t.val * (128 * cred)) hu (O := O) (W := W')
    show J t acc ⊢ wp _ _ _ (Prog.op (.waitDma2 cc0_scratch2.sem (tvAll tV) _ _ _) fun x => (pure x : TileProg F L)) _
    have hJ : J t acc = iprop(levAts (K (F := F)).L (K (F := F)).lev ∗ bat I T₀ d L hI fr (128 * 128) (t.val * (128 * cred))
      ∗ ∃ W', ⌜∀ p ∈ W', p ∈ W ∨ p.2 = none⌝ ∗ owes (tV' d L) O W') := rfl
    rw [hJ]
    iintro ⟨#Hlv, HB, %W', %hW', HO⟩
    ihave Hmw := (show levAts (K (F := F)).L (K (F := F)).lev ⊢ Transfers.MayWaits (tV' d L) (default : HIx 1) O from
      (K (F := F)).mayWaits_none (thr := tV' d L) hO) $$ Hlv
    iapply (hw W') $$ [HB HO Hmw]
    · isplitl [HB]; · iexact HB
      isplitl [HO]; · iexact HO
      iapply (Transfers.MayWaits.elim (SemLoc.dma cc0_scratch2.sem)) $$ Hmw
    iintro ⟨HB, HO⟩
    sl_step
    have hJ' : J (t.val + 1) ⟨⟩ = iprop(levAts (K (F := F)).L (K (F := F)).lev ∗ bat I T₀ d L hI fr (128 * 128) (t.val * (128 * cred) + 128 * cred)
      ∗ ∃ W', ⌜∀ p ∈ W', p ∈ W ∨ p.2 = none⌝ ∗ owes (tV' d L) O W') := by
      show iprop(_ ∗ bat I T₀ d L hI fr (128 * 128) ((t.val + 1) * (128 * cred)) ∗ _) = _
      rw [Nat.add_mul, Nat.one_mul]
    rw [hJ']
    isplitr; · iexact Hlv
    isplitl [HB]; · iexact HB
    iexists _; isplitr
    swap; · iexact HO
    ipureintro; intro p hp
    rcases Finset.mem_insert.mp hp with hp | hp
    · exact .inr (hp ▸ rfl)
    · exact hW' p hp
  have hloop := Scf.wp_for_bind frame (wpE (defs₀ (F := F)) 𝒱₀ (tV' d L) none) Set.univ k0_t1_loop.lb k0_t1_loop.ub k0_t1_loop.st k0_t1_ok PUnit.unit
    (fun t _ => drainOne L tV rV cc0_scratch2 t) J hbody (kk := fun _ => k) (Q := Q)
  have h0 : J 0 PUnit.unit = iprop(levAts (K (F := F)).L (K (F := F)).lev ∗ bat I T₀ d L hI fr (128 * 128) 0
        ∗ ∃ W', ⌜∀ p ∈ W', p ∈ W ∨ p.2 = none⌝ ∗ owes (tV' d L) O W') := by
    show iprop(_ ∗ bat I T₀ d L hI fr (128 * 128) (0 * (128 * cred)) ∗ _) = _
    rw [Nat.zero_mul]
  have h1 : ∀ x : PUnit, J k0_t1_loop.trips x = iprop(levAts (K (F := F)).L (K (F := F)).lev ∗ bat I T₀ d L hI fr (128 * 128) (cred * (128 * 128))
        ∗ ∃ W', ⌜∀ p ∈ W', p ∈ W ∨ p.2 = none⌝ ∗ owes (tV' d L) O W') := by
    intro x
    show iprop(_ ∗ bat I T₀ d L hI fr (128 * 128) (k0_t1_loop.trips * (128 * cred)) ∗ _) = _
    rw [show k0_t1_loop.trips * (128 * cred) = cred * (128 * 128) by show 128 * (128 * cred) = _; omega]
  rw [← h0]
  iintro HJ Hk
  iapply hloop $$ HJ
  iintro %acc HJ
  ihave HJ' := (Entails.of_eq (h1 acc)) $$ HJ
  icases HJ' with ⟨-, HB, HO⟩
  iapply Hk
  isplitl [HB]; · iexact HB
  iexact HO

end Cert.Proof.Sc
-- ==== Proof.TileBody.lean ====
/- One tile's whole task of the gather kernel, from what the launch hands it to what it hands back. -/
module

public import proofs.«01_k».proof.Proof.Tile

@[expose] public section

noncomputable section

namespace Cert.Proof.Sc

open Cert.KernelIdeal Cert.KernelIdeal.Gen Cert.Proof.GatherBody Cert.Proof.GatherBatch

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (I : (d : Dev nD) → Buf (Elt F) (wLoc d)) (T₀ : (d : Dev nD) → Buf (Elt F) (tLoc d)) (d : Dev nD) (L : grid0.Coords)

/-! ## The tile's buffers, as its program names them -/

/-- The tile's block of the positions, -/
theorem pts_idxBlock (f : Buf (Elt F) (wLoc d)) :
    ((idxBlock L wV).view.loc (tV' d L) ↦[(idxBlock L wV).view.set]{fullShare} f : sProp 𝕄) = wLoc d ↦[wSet (wL L)]{fullShare} f := by
  rw [idxBlock_set]
/-- its block of the result, -/
theorem pts_outBlock (f : Buf (Elt F) (oLoc d)) :
    ((outBlock L oV).view.loc (tV' d L) ↦[(outBlock L oV).view.set]{fullShare} f : sProp 𝕄) = oLoc d ↦[oSet (wL L)]{fullShare} f := by
  rw [outBlock_set]
/-- the table, -/
theorem pts_tvAll (q : PosShare TreeShare) (f : Buf (Elt F) (tLoc d)) :
    ((tvAll tV).view.loc (tV' d L) ↦[(tvAll tV).view.set]{q} f : sProp 𝕄) = tLoc d ↦{q} f := by
  rw [tvAll_set]
/-- its scratch of positions -/
theorem pts_sV (f : Buf (Elt F) ((tV' d L).loc cc0_scratch0)) :
    ((sV).view.loc (tV' d L) ↦{fullShare} f : sProp 𝕄) = (tV' d L).loc cc0_scratch0 ↦{fullShare} f := rfl
/-- and its scratch of rows, each as its owner names it. -/
theorem pts_rV (f : Buf (Elt F) ((tV' d L).loc cc0_scratch1)) :
    ((rV).view.loc (tV' d L) ↦{fullShare} f : sProp 𝕄) = (tV' d L).loc cc0_scratch1 ↦{fullShare} f := rfl

/-- The table's share is the 128 gathers' shares. -/
theorem tv_split :
    (tLoc d ↦{tq (wL L)} T₀ d : sProp 𝕄)
      = bigSep Finset.univ fun j : Fin 128 => (tvAll tV).view.loc (tV' d L) ↦[(tvAll tV).view.set]{gq (wL L) j} T₀ d := by
  have h : (fun j : Fin 128 => ((tvAll tV).view.loc (tV' d L) ↦[(tvAll tV).view.set]{gq (wL L) j} T₀ d : sProp 𝕄))
      = fun j : Fin 128 => tLoc d ↦{gq (wL L) j} T₀ d := by
    funext j
    exact pts_tvAll d L _ _
  rw [h]
  exact pointsTo_piecesOf Finset.univ (T₀ d) (show 0 < 128 by decide) (tq (wL L))

/-- The gathered rows' scratch is its 128 rows. -/
theorem rV_split (f : Buf (Elt F) ((rV).view.loc (tV' d L))) :
    ((rV).view.loc (tV' d L) ↦{fullShare} f : sProp 𝕄) = bigSep Finset.univ fun j : Fin 128 => (rV).view.loc (tV' d L) ↦[rowSet j]{fullShare} f := by
  rw [← pointsTo_biUnion Finset.univ (ℓ := (rV).view.loc (tV' d L)) rowSet rowSet_disjoint, rowSet_union]

/-- The index scratch is its 128 rows. -/
theorem sV_split (f : Buf (Elt F) ((sV).view.loc (tV' d L))) :
    ((sV).view.loc (tV' d L) ↦{fullShare} f : sProp 𝕄) = bigSep Finset.univ fun j : Fin 128 => (sV).view.loc (tV' d L) ↦[rowSet j]{fullShare} f := by
  rw [← pointsTo_biUnion Finset.univ (ℓ := (sV).view.loc (tV' d L)) rowSet rowSet_disjoint, rowSet_union]

/-- The share of the table, the row scratch and the index scratch are the 128 gathers' operands. -/
theorem ops_of (fr : Buf (Elt F) ((rV).view.loc (tV' d L))) :
    iprop((tLoc d ↦{tq (wL L)} T₀ d) ∗ ((rV).view.loc (tV' d L) ↦{fullShare} fr) ∗ ((sV).view.loc (tV' d L) ↦{fullShare} idxF I d L))
      ⊢ (bigSep Finset.univ (opsP I T₀ d L fr) : sProp 𝕄) := by
  have hr : ((rV).view.loc (tV' d L) ↦{fullShare} fr : sProp 𝕄)
      = bigSep Finset.univ fun j : Fin 128 => (rowAt rV j).view.loc (tV' d L) ↦[(rowAt rV j).view.set]{fullShare} fr := by
    rw [rV_split]; congr 1; funext j; rw [rowAt_set]
  have hs : ((sV).view.loc (tV' d L) ↦{fullShare} idxF I d L : sProp 𝕄)
      = bigSep Finset.univ fun j : Fin 128 => (listAt sV j).view.loc (tV' d L) ↦[(listAt sV j).view.set]{fullShare} idxF I d L := by
    rw [sV_split]; congr 1; funext j; rw [listAt_set]
  rw [tv_split, hr, hs, ← bigSep_sep', ← bigSep_sep']
  exact .refl

/-- What all the batch's transfers deliver is the table's share, the row scratch holding the gathered rows, and the index
    scratch. -/
theorem of_dlv (hI : InRange I) (fr : Buf (Elt F) ((rV).view.loc (tV' d L))) :
    (bigSep Finset.univ (dlv I T₀ d L hI fr) : sProp 𝕄)
      ⊢ iprop((tLoc d ↦{tq (wL L)} T₀ d) ∗ ((rV).view.loc (tV' d L) ↦{fullShare} rowF I T₀ d L)
          ∗ ((sV).view.loc (tV' d L) ↦{fullShare} idxF I d L)) := by
  have hent : ∀ j : Fin 128, (bigSep Finset.univ fun l : Fin 128 => ent I T₀ d L hI fr j l : sProp 𝕄)
      ⊢ iprop(((rV).view.loc (tV' d L) ↦[rowSet j]{fullShare} rowF I T₀ d L)
          ∗ ((tvAll tV).view.loc (tV' d L) ↦[(tvAll tV).view.set]{gq (wL L) j} T₀ d)
          ∗ ((sV).view.loc (tV' d L) ↦[rowSet j]{fullShare} idxF I d L)) := by
    intro j
    have h := delivery_join (c := tV' d L) (src := tvAll tV) (dst := rowAt rV j) (hg := gathers_S32000000_S128) (offs := listAt sV j) (hn := rfl)
      (q := gq (wL L) j) (qo := fullShare) (fs := T₀ d) (fd := fr) (fo := idxF I d L) (r := rws I d L hI j) (ho := by decide)
      (Ix := HIx 1) (Name := ℕ) (U := UU) (Lvl := ℕ)
    refine BI.Entails.trans h ?_
    rw [row_pts, listAt_set]
    exact .refl _
  have hall : (bigSep Finset.univ (dlv I T₀ d L hI fr) : sProp 𝕄)
      = bigSep Finset.univ fun j : Fin 128 => bigSep Finset.univ fun l : Fin 128 => ent I T₀ d L hI fr j l := by
    rw [← bigSep_univ_prod (fun p : Fin 128 × Fin 128 => ent I T₀ d L hI fr p.1 p.2)]
    have h2 : dlv I T₀ d L hI fr = fun t : Fin (128 * 128) =>
        (fun p : Fin 128 × Fin 128 => ent I T₀ d L hI fr p.1 p.2) ((finProdFinEquiv (m := 128) (n := 128)).symm t) := by
      funext t; rfl
    rw [h2]
    exact (bigSep_univ_equiv (finProdFinEquiv (m := 128) (n := 128)).symm (fun p : Fin 128 × Fin 128 => ent I T₀ d L hI fr p.1 p.2)).symm
  have hp : ∀ A B C : sProp 𝕄, iprop(A ∗ B ∗ C) ⊢ iprop(B ∗ A ∗ C) := by
    intro A B C
    iintro ⟨H1, H2, H3⟩
    isplitl [H2]; · iexact H2
    isplitl [H1]; · iexact H1
    iexact H3
  rw [hall, tv_split, rV_split, sV_split]
  refine BI.Entails.trans (bigSep_mono fun j _ => hent j) ?_
  rw [bigSep_sep', bigSep_sep']
  exact hp _ _ _

/-! ## The tile's own semaphores and scratches -/

/-- The gathers' semaphore, -/
abbrev cG (d : Dev nD) (c : Fin τ.nSC) (i : Fin τ.nSub) : GSem nD τ sig := (V d c i, .dma cc0_scratch2.sem)
/-- the positions' copy's -/
abbrev cI (d : Dev nD) (c : Fin τ.nSC) (i : Fin τ.nSub) : GSem nD τ sig := (V d c i, .dma cc0_scoped0.sem)
/-- and the result's copy's. -/
abbrev cO (d : Dev nD) (c : Fin τ.nSC) (i : Fin τ.nSub) : GSem nD τ sig := (V d c i, .dma cc0_scoped1.sem)

/-- The three semaphores are among the tile's own, at zero, with the rest. -/
theorem ownSems0_V :
    (ownSems0 (V d (cV L) (jV L)) : sProp 𝕄)
      = iprop(semVal (cG d (cV L) (jV L)) 0 ∗ semVal (cI d (cV L) (jV L)) 0 ∗ semVal (cO d (cV L) (jV L)) 0
          ∗ bigSep ((((ownCells (V d (cV L) (jV L))).erase (cG d (cV L) (jV L))).erase (cI d (cV L) (jV L))).erase (cO d (cV L) (jV L))) fun g => semVal g 0) := by
  unfold SparseCore.Cfg.ownSems0
  rw [SparseCore.bigSep_erase' ((mem_ownCells (g := cG d (cV L) (jV L))).mpr ⟨rfl, by
      show (SemLoc.dma cc0_scratch2.sem : SemLoc sig).isScoped .scVector = true; decide⟩),
    SparseCore.bigSep_erase' (Finset.mem_erase.mpr ⟨by simp [cG, cI]; decide, (mem_ownCells (g := cI d (cV L) (jV L))).mpr ⟨rfl, by
      show (SemLoc.dma cc0_scoped0.sem : SemLoc sig).isScoped .scVector = true; decide⟩⟩),
    SparseCore.bigSep_erase' (Finset.mem_erase.mpr ⟨by simp [cI, cO]; decide, Finset.mem_erase.mpr ⟨by simp [cG, cO]; decide,
      (mem_ownCells (g := cO d (cV L) (jV L))).mpr ⟨rfl, by show (SemLoc.dma cc0_scoped1.sem : SemLoc sig).isScoped .scVector = true; decide⟩⟩⟩)]

/-- The two scratch buffers are among the tile's own, at some contents, with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The copies' contents -/

/-- The index scratch written with the tile's block holds the tile's block. -/
theorem sV_written (fs : Buf (Elt F) ((sV).view.loc (tV' d L))) :
    View.write (Elt F) (sV).view fs ((idxBlock L wV).view.read (Elt F) (I d)) Finset.univ = idxF I d L := by
  refine (View.write_whole_univ _ _ _).trans ?_
  funext x
  rw [View.read_apply]
  refine (cast_eq _ _).trans ?_
  show I d ((idxBlock L wV).view.emb x) = _
  rw [idxBlock_emb]; rfl

/-- The tile's block of the result, written with the gathered rows, holds the result. -/
theorem oPts_written (fo : Buf (Elt F) (oLoc d)) (w : S128x128.Idx → Elt F .f32) (hw : w = (rV).view.read (Elt F) (rowF I T₀ d L)) :
    ((outBlock L oV).view.loc (tV' d L) ↦[(outBlock L oV).view.set]{fullShare}
        (outBlock L oV).view.writes (Elt F) fo [⟨Rect.whole S128x128, w⟩] : sProp 𝕄)
      = oLoc d ↦[oSet (wL L)]{fullShare} outF I T₀ d := by
  subst hw
  rw [← pts_outBlock d L]
  refine pointsTo_congr ?_
  intro x hx
  obtain ⟨y, -, rfl⟩ := Finset.mem_map.mp hx
  have hy : (outBlock L oV).view.emb y = ((outBlock L oV).view.slice (Rect.whole S128x128)).emb y := by
    show _ = (outBlock L oV).view.emb ((Rect.whole S128x128).emb y)
    rw [show (Rect.whole S128x128).emb y = y from funext fun a => Fin.ext (by rw [Rect.emb_apply]; show 0 + 1 * (y a).val = (y a).val; omega)]
  rw [View.writes_singleton, hy, View.write_emb_of_mem _ _ (Finset.mem_univ _), ← hy]
  refine (cast_eq _ _).trans ?_
  rw [outBlock_emb]; rfl

variable [FloatOps F]

section

attribute [local irreducible] GatherBody.issues GatherBody.drain cred

/-- The gathers and their waits: from the table's share, the row scratch at some contents, the index scratch and the cell at zero, to
    the same with the row scratch holding the gathered rows. -/
theorem wp_gathers (hI : InRange I) (fr : Buf (Elt F) ((rV).view.loc (tV' d L))) (O : CellTallies nD τ sig (HIx 1)) (W W₁ : Waits sig (HIx 1))
    (hO : ∀ g, O g none = 0) (hW₁ : ∀ p ∈ W₁, p ∈ W ∨ p.2 = none) (k : TileProg F L) (Q : PUnit → sProp 𝕄) :
    iprop(levAts (K (F := F)).L (K (F := F)).lev ∗ (tLoc d ↦{tq (wL L)} T₀ d) ∗ ((rV).view.loc (tV' d L) ↦{fullShare} fr)
        ∗ ((sV).view.loc (tV' d L) ↦{fullShare} idxF I d L) ∗ semVal (cG d (cV L) (jV L)) 0 ∗ owes (tV' d L) O W₁)
      ⊢ iprop((iprop((tLoc d ↦{tq (wL L)} T₀ d) ∗ ((rV).view.loc (tV' d L) ↦{fullShare} rowF I T₀ d L)
              ∗ ((sV).view.loc (tV' d L) ↦{fullShare} idxF I d L) ∗ semVal (cG d (cV L) (jV L)) 0
              ∗ ∃ W', ⌜∀ p ∈ W', p ∈ W ∨ p.2 = none⌝ ∗ owes (tV' d L) O W')
            -∗ wp frame (wpE (defs₀ (F := F)) 𝒱₀ (tV' d L) none) Set.univ k Q)
          -∗ wp frame (wpE (defs₀ (F := F)) 𝒱₀ (tV' d L) none) Set.univ
              (issues L tV sV rV cc0_scratch2 128 le_rfl (drain L tV rV cc0_scratch2 k)) Q) := by
  have hissue := wp_issues (F := F) I T₀ d L hI fr (drain L tV rV cc0_scratch2 k) Q 128 le_rfl
  have hdrain := wp_drain (F := F) I T₀ d L hI fr O W hO k Q
  have hcollect : bat I T₀ d L hI fr (128 * 128) (cred * (128 * 128))
      ⊢ |={Set.univ}=> iprop(bigSep Finset.univ (dlv I T₀ d L hI fr) ∗ semVal (cG d (cV L) (jV L)) 0) :=
    batch_collect' (countersEmb (U := UU)) (tV' d L) cred_pos
  have halloc : (semVal (cG d (cV L) (jV L)) 0 : sProp 𝕄) ⊢ |={Set.univ}=> bat I T₀ d L hI fr 0 0 :=
    batch_alloc' (countersEmb (U := UU)) (tV' d L) (sm := .dma cc0_scratch2.sem) (default : HIx 1) cred (dlv I T₀ d L hI fr) (E := Set.univ)
  rw [show 128 - 128 = 0 from rfl, ← bigSep_pending_zero, show 128 * 0 = 0 from rfl] at hissue
  iintro ⟨#Hlv, Ht, Hr', Hs2, HsemG, HO⟩ Hk
  ihave Hops := (ops_of (F := F) I T₀ d L fr) $$ [Ht Hr' Hs2]
  · isplitl [Ht]; · iexact Ht
    isplitl [Hr']; · iexact Hr'
    iexact Hs2
  imod halloc $$ HsemG with HB
  iapply hissue $$ [Hops HB]
  · isplitl [Hops]; · iexact Hops
    iexact HB
  iintro HB
  iapply hdrain $$ [HB HO]
  · isplitr; · iexact Hlv
    isplitl [HB]; · iexact HB
    iexists W₁; isplitr
    swap; · iexact HO
    ipureintro; exact hW₁
  iintro ⟨HB, HO⟩
  imod hcollect $$ HB with ⟨HD, HsemG⟩
  ihave HD' := (of_dlv (F := F) I T₀ d L hI fr) $$ HD
  icases HD' with ⟨Ht, Hr', Hs'⟩
  iapply Hk
  isplitl [Ht]; · iexact Ht
  isplitl [Hr']; · iexact Hr'
  isplitl [Hs']; · iexact Hs'
  isplitl [HsemG]; · iexact HsemG
  iexact HO

end

/-- The copy of the tile's block of the index array to the index scratch, and its wait, before a program `p`. -/
theorem wp_copyIn (fs : Buf (Elt F) ((sV).view.loc (tV' d L))) (O : CellTallies nD τ sig (HIx 1)) (W : Waits sig (HIx 1))
    (hO : ∀ g, O g none = 0) (p : TileProg F L) (Q : PUnit → sProp 𝕄) :
    iprop(levAts (K (F := F)).L (K (F := F)).lev ∗ wPts I d (wL L) ∗ ((sV).view.loc (tV' d L) ↦{fullShare} fs)
        ∗ semVal (cI d (cV L) (jV L)) 0 ∗ owes (tV' d L) O W)
      ⊢ iprop((iprop(wPts I d (wL L) ∗ ((sV).view.loc (tV' d L) ↦{fullShare} idxF I d L) ∗ semVal (cI d (cV L) (jV L)) 0
              ∗ ∃ W', ⌜∀ p ∈ W', p ∈ W ∨ p.2 = none⌝ ∗ owes (tV' d L) O W')
            -∗ wp frame (wpE (defs₀ (F := F)) 𝒱₀ (tV' d L) none) Set.univ p Q)
          -∗ wp frame (wpE (defs₀ (F := F)) 𝒱₀ (tV' d L) none) Set.univ (do
              Prog.lift (.enqueueDma (idxBlock L wV) (.here sV) (.dma cc0_scoped0.sem) (View.wordExact_bits rfl) (Memref.isWhole_whole _).wordExact ⟨Or.inl rfl, trivial⟩)
              Prog.lift (.waitDma2 cc0_scoped0.sem (idxBlock L wV) sV (View.wordExact_bits rfl) (Memref.isWhole_whole _).wordExact)
              p) Q) := by
  iintro ⟨#Hlv, Hw, Hs', HsemI, HO⟩ Hk
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hw' := (Entails.of_eq (pts_idxBlock (F := F) d L _).symm) $$ Hw
  sl_exec
  have hsw : View.write (Elt F) (sV).view fs (wp_copyIn.sl.dma0 I d L) Finset.univ = idxF I d L := sV_written (F := F) I d L fs
  ihave Hs2 := (Entails.of_eq (congrArg (fun f => ((sV).view.loc (tV' d L) ↦{fullShare} f : sProp 𝕄)) hsw)) $$ Hs'
  iapply Hk
  isplitl [Hw']; · iapply (Entails.of_eq (pts_idxBlock (F := F) d L _)); iexact Hw'
  isplitl [Hs2]; · iexact Hs2
  isplitl [HsemI]; · iexact HsemI
  iexists _; isplitr
  swap; · iexact HO
  ipureintro; intro p hp
  rcases Finset.mem_insert.mp hp with hp | hp; · exact .inr (hp ▸ rfl)
  exact .inl hp

/-- The copy of the gathered rows to the tile's block of the result, and its wait. -/
theorem wp_copyOut (fo : Buf (Elt F) (oLoc d)) (O : CellTallies nD τ sig (HIx 1)) (W W₁ : Waits sig (HIx 1))
    (hO : ∀ g, O g none = 0) (hW₁ : ∀ p ∈ W₁, p ∈ W ∨ p.2 = none) :
    iprop(levAts (K (F := F)).L (K (F := F)).lev ∗ oPts d (wL L) fo ∗ ((rV).view.loc (tV' d L) ↦{fullShare} rowF I T₀ d L)
        ∗ semVal (cO d (cV L) (jV L)) 0 ∗ owes (tV' d L) O W₁)
      ⊢ wp frame (wpE (defs₀ (F := F)) 𝒱₀ (tV' d L) none) Set.univ (copyOut L oV rV cc0_scoped1 (Memref.isWhole_whole _))
          fun _ => iprop(oPts d (wL L) (outF I T₀ d) ∗ ((rV).view.loc (tV' d L) ↦{fullShare} rowF I T₀ d L) ∗ semVal (cO d (cV L) (jV L)) 0
              ∗ ∃ W', ⌜∀ p ∈ W', p ∈ W ∨ p.2 = none⌝ ∗ owes (tV' d L) O W') := by
  iintro ⟨#Hlv, Ho, Hr', HsemO, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_outBlock (F := F) d L _).symm) $$ Ho
  unfold copyOut
  sl_exec
  sl_step
  isplitl [Ho']; · iapply (Entails.of_eq (oPts_written (F := F) I T₀ d L fo (wp_copyOut.sl.dma0 I T₀ d L) rfl)); iexact Ho'
  isplitl [Hr']; · iexact Hr'
  isplitl [HsemO]; · iexact HsemO
  iexists _; isplitr
  swap; · iexact HO
  ipureintro; intro p hp
  rcases Finset.mem_insert.mp hp with hp | hp; · exact .inr (hp ▸ rfl)
  exact hW₁ p hp

section

attribute [local irreducible] GatherBody.issues GatherBody.drain GatherBody.copyOut cred

/-- The task of the tile at grid coordinates `L`: from its block of the index array, its share of the table and its block of the
    result at some contents, to the same with the block of the result holding the gathered elements. -/
theorem tile_body (hF : (K (F := F)).Facts) (hI : InRange I) (O : CellTallies nD τ sig (HIx 1)) (W : Waits sig (HIx 1)) (hO : ∀ g, O g none = 0) :
    iprop(levAts (K (F := F)).L (K (F := F)).lev ∗ emp ∗ goP I T₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L wV (Memref.isWhole_whole _) tV (Memref.isWhole_whole _) oV (Memref.isWhole_whole _)
            sV (Memref.isWhole_whole _) rV (Memref.isWhole_whole _) cc0_scratch2 cc0_scoped0 cc0_scoped1)
          fun _ => iprop(tdP I T₀ d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq]; unfold GatherBody.body goP tdP
  rw [(K (F := F)).scopedBufs_V hF d (cV L) (jV L), SparseCore.Cfg.scopedSems0_V (Val := Elt F) d (cV L) (jV L), ownSems0_V, ownBufs_V]
  generalize hQ : (fun _ : PUnit => (_ : sProp 𝕄)) = Q
  iintro ⟨#Hlv, -, ⟨Hw, Ht, %fo, Ho⟩, ⟨⟨%fs, Hs⟩, ⟨%fr, Hr⟩, Hbufs⟩, ⟨HsemG, HsemI, HsemO, Hsems⟩, HO⟩
  ihave Hs' := (Entails.of_eq (pts_sV (F := F) d L _).symm) $$ Hs
  ihave Hr' := (Entails.of_eq (pts_rV (F := F) d L _).symm) $$ Hr
  iapply (wp_copyIn (F := F) I d L fs O W hO (issues L tV sV rV cc0_scratch2 128 le_rfl (drain L tV rV cc0_scratch2
    (copyOut L oV rV cc0_scoped1 (Memref.isWhole_whole _)))) Q) $$ [Hw Hs' HsemI HO]
  · isplitr; · iexact Hlv
    isplitl [Hw]; · iexact Hw
    isplitl [Hs']; · iexact Hs'
    isplitl [HsemI]; · iexact HsemI
    iexact HO
  iintro ⟨Hw, Hs', HsemI, %W₁, %hW₁, HO⟩
  iapply (wp_gathers (F := F) I T₀ d L hI fr O W W₁ hO hW₁ (copyOut L oV rV cc0_scoped1 (Memref.isWhole_whole _)) Q) $$ [Ht Hr' Hs' HsemG HO]
  · isplitr; · iexact Hlv
    isplitl [Ht]; · iexact Ht
    isplitl [Hr']; · iexact Hr'
    isplitl [Hs']; · iexact Hs'
    isplitl [HsemG]; · iexact HsemG
    iexact HO
  iintro ⟨Ht, Hr', Hs', HsemG, %W₂, %hW₂, HO⟩
  iapply (wp_wand frame (wpE (defs₀ (F := F)) 𝒱₀ (tV' d L) none) Set.univ (Q := fun _ => iprop(oPts d (wL L) (outF I T₀ d) ∗ ((rV).view.loc (tV' d L) ↦{fullShare} rowF I T₀ d L) ∗ semVal (cO d (cV L) (jV L)) 0
              ∗ ∃ W', ⌜∀ p ∈ W', p ∈ W ∨ p.2 = none⌝ ∗ owes (tV' d L) O W'))) $$ [Ho Hr' HsemO HO]
  · iapply (wp_copyOut (F := F) I T₀ d L fo O W W₂ hO hW₂)
    isplitr; · iexact Hlv
    isplitl [Ho]; · iexact Ho
    isplitl [Hr']; · iexact Hr'
    isplitl [HsemO]; · iexact HsemO
    iexact HO
  iintro %_ ⟨Ho, Hr', HsemO, HO⟩
  rw [← hQ]
  isplitl [Hw Ht Ho]
  · isplitl [Hw]; · iexact Hw
    isplitl [Ht]; · iexact Ht
    iexact Ho
  isplitl [Hs' Hr' Hbufs]
  · isplitl [Hs']; · iexists _; iexact Hs'
    isplitl [Hr']; · iexists _; iexact Hr'
    iexact Hbufs
  isplitl [HsemG HsemI HsemO Hsems]
  · isplitl [HsemG]; · iexact HsemG
    isplitl [HsemI]; · iexact HsemI
    isplitl [HsemO]; · iexact HsemO
    iexact Hsems
  iexact HO

end

/-! ## The launch's obligation -/

/-- The grid coordinates of core `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- A tile runs the gather's body at its coordinates. -/
theorem defs₀_vector (c : Fin τ.nSC) (s : Fin τ.nSub) :
    defs₀ (F := F) (.scVector c s) 0 ()
      = SparseCore.onTile hcore0 hsub0 (fun c s => cc0__gather_body (coordsV c s)
          wV (Memref.isWhole_whole _) tV (Memref.isWhole_whole _) oV (Memref.isWhole_whole _)
          sV (Memref.isWhole_whole _) rV (Memref.isWhole_whole _) cc0_scratch2 cc0_scoped0 cc0_scoped1) ⟨⟩ c s := rfl

omit [FloatOps F] in
/-- What the tile ends with is what the launch asks of it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets the launch's obligation. -/
theorem tileObl (hI : InRange I) : (K (F := F)).TileObl (D (F := F)) 𝒱 (P I T₀) v₀ 0 := by
  intro d c i O W hO _ _
  simp only [show (P I T₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I T₀ d (coordsV ⟨_, hci.1⟩ ⟨_, hci.2⟩) facts hI O W hO).trans (wp_mono frame _ _ fun _ => obl_post)

end Cert.Proof.Sc
-- ==== Proof.Mlp.lean ====
/- The dense layers' kernel: what its body leaves in the result's block, from the blocks of its twelve operands. -/
module

public import proofs.«01_k».proof.Proof.Setup
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value

@[expose] public section

noncomputable section

namespace Cert.Proof.Tc

open Cert.KernelIdeal Cert.KernelIdeal.Gen
open Cert.Proof.Sc (UU 𝒱₀)

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- What the body computes of its operands' blocks. -/
def mlp (x0 x1 : Vec F S2048x128 .f32) (x2 x3 : Vec F S128x512 .f32) (x4 : Vec F S1x512 .f32) (x5 : Vec F S512x256 .f32)
    (x6 : Vec F S1x256 .f32) (x7 : Vec F S256x128 .f32) (x8 : Vec F S1x128 .f32) (x9 x10 : Vec F S128x8 .f32) (x11 : Vec F S1x1 .f32) :
    Vec F S2048x8 .f32 :=
  k1_pay1 (k1_pay2 x0) (k1_pay3 x1) (k1_pay4 x0 x1 x2 x3 x4 x5 x6 x7 x8) k1_pay5 x9 x10 x11

/-- Memref `M`'s buffer on core `c`, held whole at `f`. -/
abbrev Bf (c : Dev nD) {sp : Space} {S : Shape} {e : EltTy} (M : Memref sig .tc sp S e) : Type := Buf (Elt F) (M.view.loc (c : Thread nD τ))
/-- Memref `M`'s buffer on core `c`, owned at `f`. -/
abbrev pt (c : Dev nD) {sp : Space} {S : Shape} {e : EltTy} (M : Memref sig .tc sp S e) (f : Bf (F := F) c M) : sProp 𝕄 :=
  M.view.loc (c : Thread nD τ) ↦{fullShare} f

/-- The offsets of a whole block are zero. -/
theorem zz : (![0, 0] : Fin 2 → Nat) = fun _ => 0 := by decide

/-- A load of a whole block reads the block. -/
theorem readAt_all {S : Shape} {e : EltTy} {sp : Space} (M : Memref sig .tc sp S e) {off : Fin S.rank → Nat} (h : off = fun _ => 0)
    (inb : ∀ a, off a + S.size a ≤ S.size a) (f : M.view.ty.Contents (Elt F)) :
    M.view.readAt (Elt F) (Rect.unit off S.size inb).toLoadRect f = M.view.read (Elt F) f :=
  View.ld_unit_zero h inb (M.view.read (Elt F) f)

/-- `mlp` at equal operands, spelt as the body computes it. -/
theorem mlp_of {x0 y0 : Vec F S2048x128 .f32} {x1 y1 : Vec F S2048x128 .f32} {x2 y2 : Vec F S128x512 .f32} {x3 y3 : Vec F S128x512 .f32} {x4 y4 : Vec F S1x512 .f32} {x5 y5 : Vec F S512x256 .f32} {x6 y6 : Vec F S1x256 .f32} {x7 y7 : Vec F S256x128 .f32} {x8 y8 : Vec F S1x128 .f32} {x9 y9 : Vec F S128x8 .f32} {x10 y10 : Vec F S128x8 .f32} {x11 y11 : Vec F S1x1 .f32}
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) :
    mlp x0 x1 x2 x3 x4 x5 x6 x7 x8 x9 x10 x11
      = k1_pay1 (k1_pay2 y0) (k1_pay3 y1) (k1_pay4 y0 y1 y2 y3 y4 y5 y6 y7 y8) k1_pay5 y9 y10 y11 := by
  subst e0 e1 e2 e3 e4 e5 e6 e7 e8 e9 e10 e11; rfl

/-- The body, run: from the thirteen staging buffers held whole, it hands back the twelve operands' as they were and the result's
    reading `mlp` of what they read. -/
theorem body_run (i : grid1.Coords) (c : Dev nD)
    (M0 : Memref sig .tc .vmem S2048x128 .f32) (h0 : M0.IsWhole) (M1 : Memref sig .tc .vmem S2048x128 .f32) (h1 : M1.IsWhole)
    (M2 : Memref sig .tc .vmem S128x512 .f32) (h2 : M2.IsWhole) (M3 : Memref sig .tc .vmem S128x512 .f32) (h3 : M3.IsWhole)
    (M4 : Memref sig .tc .vmem S1x512 .f32) (h4 : M4.IsWhole) (M5 : Memref sig .tc .vmem S512x256 .f32) (h5 : M5.IsWhole)
    (M6 : Memref sig .tc .vmem S1x256 .f32) (h6 : M6.IsWhole) (M7 : Memref sig .tc .vmem S256x128 .f32) (h7 : M7.IsWhole)
    (M8 : Memref sig .tc .vmem S1x128 .f32) (h8 : M8.IsWhole) (M9 : Memref sig .tc .vmem S128x8 .f32) (h9 : M9.IsWhole)
    (M10 : Memref sig .tc .vmem S128x8 .f32) (h10 : M10.IsWhole) (M11 : Memref sig .tc .vmem S1x1 .f32) (h11 : M11.IsWhole)
    (M12 : Memref sig .tc .vmem S2048x8 .f32) (h12 : M12.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (f9 : Bf (F := F) c M9)
    (f10 : Bf (F := F) c M10) (f11 : Bf (F := F) c M11) (f12 : Bf (F := F) c M12) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ pt c M10 f10 ∗ pt c M11 f11 ∗ pt c M12 f12
        ∗ (iprop(pt c M0 f0 ∗ pt c M1 f1 ∗ pt c M2 f2 ∗ pt c M3 f3 ∗ pt c M4 f4 ∗ pt c M5 f5 ∗ pt c M6 f6 ∗ pt c M7 f7 ∗ pt c M8 f8
            ∗ pt c M9 f9 ∗ pt c M10 f10 ∗ pt c M11 f11
            ∗ pt c M12 (M12.view.writes (Elt F) f12 [⟨Rect.unit (s := S2048x8) ![0, 0] S2048x8.size inb_S2048x8_S2048x8_0_0,
                mlp (M0.view.read (Elt F) f0) (M1.view.read (Elt F) f1) (M2.view.read (Elt F) f2) (M3.view.read (Elt F) f3)
                  (M4.view.read (Elt F) f4) (M5.view.read (Elt F) f5) (M6.view.read (Elt F) f6) (M7.view.read (Elt F) f7)
                  (M8.view.read (Elt F) f8) (M9.view.read (Elt F) f9) (M10.view.read (Elt F) f10) (M11.view.read (Elt F) f11)⟩])) -∗ Q ⟨⟩))
      ⊢ wp frame (wpE (defs₀ (F := F)) Variants.none c none) E
          (cc1__mlp_body i M0 h0 M1 h1 M2 h2 M3 h3 M4 h4 M5 h5 M6 h6 M7 h7 M8 h8 M9 h9 M10 h10 M11 h11 M12 h12) Q := by
  have hW : mlp (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11)
      = k1_pay1 (k1_pay2 (M0.view.readAt (Elt F) (Rect.unit (s := S2048x128) ![0, 0] S2048x128.size inb_S2048x128_S2048x128_0_0).toLoadRect f0)) (k1_pay3 (M1.view.readAt (Elt F) (Rect.unit (s := S2048x128) ![0, 0] S2048x128.size inb_S2048x128_S2048x128_0_0).toLoadRect f1))
        (k1_pay4 (M0.view.readAt (Elt F) (Rect.unit (s := S2048x128) ![0, 0] S2048x128.size inb_S2048x128_S2048x128_0_0).toLoadRect f0)
          (M1.view.readAt (Elt F) (Rect.unit (s := S2048x128) ![0, 0] S2048x128.size inb_S2048x128_S2048x128_0_0).toLoadRect f1)
          (M2.view.readAt (Elt F) (Rect.unit (s := S128x512) ![0, 0] S128x512.size inb_S128x512_S128x512_0_0).toLoadRect f2)
          (M3.view.readAt (Elt F) (Rect.unit (s := S128x512) ![0, 0] S128x512.size inb_S128x512_S128x512_0_0).toLoadRect f3)
          (M4.view.readAt (Elt F) (Rect.unit (s := S1x512) ![0, 0] S1x512.size inb_S1x512_S1x512_0_0).toLoadRect f4)
          (M5.view.readAt (Elt F) (Rect.unit (s := S512x256) ![0, 0] S512x256.size inb_S512x256_S512x256_0_0).toLoadRect f5)
          (M6.view.readAt (Elt F) (Rect.unit (s := S1x256) ![0, 0] S1x256.size inb_S1x256_S1x256_0_0).toLoadRect f6)
          (M7.view.readAt (Elt F) (Rect.unit (s := S256x128) ![0, 0] S256x128.size inb_S256x128_S256x128_0_0).toLoadRect f7)
          (M8.view.readAt (Elt F) (Rect.unit (s := S1x128) ![0, 0] S1x128.size inb_S1x128_S1x128_0_0).toLoadRect f8)) k1_pay5
        (M9.view.readAt (Elt F) (Rect.unit (s := S128x8) ![0, 0] S128x8.size inb_S128x8_S128x8_0_0).toLoadRect f9)
        (M10.view.readAt (Elt F) (Rect.unit (s := S128x8) ![0, 0] S128x8.size inb_S128x8_S128x8_0_0).toLoadRect f10)
        (M11.view.readAt (Elt F) (Rect.unit (s := S1x1) ![0, 0] S1x1.size inb_S1x1_S1x1_0_0).toLoadRect f11) :=
    mlp_of (readAt_all M0 (off := ![0, 0]) zz _ f0) (readAt_all M1 (off := ![0, 0]) zz _ f1) (readAt_all M2 (off := ![0, 0]) zz _ f2) (readAt_all M3 (off := ![0, 0]) zz _ f3) (readAt_all M4 (off := ![0, 0]) zz _ f4) (readAt_all M5 (off := ![0, 0]) zz _ f5) (readAt_all M6 (off := ![0, 0]) zz _ f6) (readAt_all M7 (off := ![0, 0]) zz _ f7) (readAt_all M8 (off := ![0, 0]) zz _ f8) (readAt_all M9 (off := ![0, 0]) zz _ f9) (readAt_all M10 (off := ![0, 0]) zz _ f10) (readAt_all M11 (off := ![0, 0]) zz _ f11)
  rw [hW, cc1__mlp_body_eq_skeleton]
  unfold cc1__mlp_body_skel
  rw [k1_part1_eq_skeleton]
  unfold k1_part1_skel
  iintro ⟨H0, H1, H2, H3, H4, H5, H6, H7, H8, H9, H10, H11, H12, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- A block stored whole reads back as what was stored. -/
theorem read_stored [∀ e, Nonempty (Elt F e)] {S : Shape} {e : EltTy} {sp : Space} (M : Memref sig .tc sp S e) {off : Fin S.rank → Nat}
    (h : off = fun _ => 0) (inb : ∀ a, off a + S.size a ≤ S.size a) (f : M.view.ty.Contents (Elt F)) (w : S.Idx → Elt F e) :
    M.view.read (Elt F) (M.view.writes (Elt F) f [⟨Rect.unit off S.size inb, w⟩]) = w := by
  rw [View.read_writes_eq_canon M.view f _ fun y => ⟨_, List.mem_singleton_self _, View.mem_set_unit_zero h inb y⟩]
  exact View.canon_unit_zero h inb w

/-- Owning a whole memref at `X` is holding its buffer at contents that read `X`. -/
theorem owns_of_whole (c : Dev nD) {S : Shape} {e : EltTy} {M : Memref sig .tc .vmem S e} (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

set_option maxHeartbeats 1000000 in
/-- `body_run` over what the staging buffers read. -/
theorem body_owns [∀ e, Nonempty (Elt F e)] (i : grid1.Coords) (c : Dev nD)
    (M0 : Memref sig .tc .vmem S2048x128 .f32) (h0 : M0.IsWhole)
    (M1 : Memref sig .tc .vmem S2048x128 .f32) (h1 : M1.IsWhole)
    (M2 : Memref sig .tc .vmem S128x512 .f32) (h2 : M2.IsWhole)
    (M3 : Memref sig .tc .vmem S128x512 .f32) (h3 : M3.IsWhole)
    (M4 : Memref sig .tc .vmem S1x512 .f32) (h4 : M4.IsWhole)
    (M5 : Memref sig .tc .vmem S512x256 .f32) (h5 : M5.IsWhole)
    (M6 : Memref sig .tc .vmem S1x256 .f32) (h6 : M6.IsWhole)
    (M7 : Memref sig .tc .vmem S256x128 .f32) (h7 : M7.IsWhole)
    (M8 : Memref sig .tc .vmem S1x128 .f32) (h8 : M8.IsWhole)
    (M9 : Memref sig .tc .vmem S128x8 .f32) (h9 : M9.IsWhole)
    (M10 : Memref sig .tc .vmem S128x8 .f32) (h10 : M10.IsWhole)
    (M11 : Memref sig .tc .vmem S1x1 .f32) (h11 : M11.IsWhole)
    (M12 : Memref sig .tc .vmem S2048x8 .f32) (h12 : M12.IsWhole)
    (X0 : Vec F S2048x128 .f32) (X1 : Vec F S2048x128 .f32) (X2 : Vec F S128x512 .f32) (X3 : Vec F S128x512 .f32) (X4 : Vec F S1x512 .f32) (X5 : Vec F S512x256 .f32) (X6 : Vec F S1x256 .f32) (X7 : Vec F S256x128 .f32) (X8 : Vec F S1x128 .f32) (X9 : Vec F S128x8 .f32) (X10 : Vec F S128x8 .f32) (X11 : Vec F S1x1 .f32)
    (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11
        ∗ (∃ X, owns (c : Thread nD τ) M12 fullShare X)
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11
            ∗ owns (c : Thread nD τ) M12 fullShare (mlp X0 X1 X2 X3 X4 X5 X6 X7 X8 X9 X10 X11)) -∗ Q ⟨⟩))
      ⊢ wp frame (wpE (defs₀ (F := F)) Variants.none c none) E
          (cc1__mlp_body i M0 h0 M1 h1 M2 h2 M3 h3 M4 h4 M5 h5 M6 h6 M7 h7 M8 h8 M9 h9 M10 h10 M11 h11 M12 h12) Q := by
  rw [owns_of_whole c h0, owns_of_whole c h1, owns_of_whole c h2, owns_of_whole c h3, owns_of_whole c h4, owns_of_whole c h5, owns_of_whole c h6, owns_of_whole c h7, owns_of_whole c h8, owns_of_whole c h9, owns_of_whole c h10, owns_of_whole c h11]
  simp only [owns_of_whole c h12]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%X12, %f12, -, H12⟩, Hk⟩
  iapply (body_run i c M0 h0 M1 h1 M2 h2 M3 h3 M4 h4 M5 h5 M6 h6 M7 h7 M8 h8 M9 h9 M10 h10 M11 h11 M12 h12 f0 f1 f2 f3 f4 f5 f6 f7 f8 f9 f10 f11 f12 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  isplitl [H8]; · iexists f8; isplitr; (· ipureintro; exact e8); iexact H8
  isplitl [H9]; · iexists f9; isplitr; (· ipureintro; exact e9); iexact H9
  isplitl [H10]; · iexists f10; isplitr; (· ipureintro; exact e10); iexact H10
  isplitl [H11]; · iexists f11; isplitr; (· ipureintro; exact e11); iexact H11
  iexists _; isplitr; swap; (· iexact H12)
  ipureintro
  rw [e0, e1, e2, e3, e4, e5, e6, e7, e8, e9, e10, e11]
  exact read_stored M12 zz _ f12 _

end Cert.Proof.Tc

end
-- ==== Proof.Region.lean ====
/- The dense layers' region of the program: its proof data over any contents of the buffers, and its triple. -/
module

public import proofs.«01_k».proof.Proof.Mlp
public import Idealize.ShloMosaic.Lib.Pipeline.RegionsLoop
public import Idealize.ShloMosaic.Lib.Pipeline.ValueKit.Geometry

@[expose] public section

noncomputable section

namespace Cert.Proof.Tc

open Cert.KernelIdeal Cert.KernelIdeal.Gen
open Cert.Proof.Sc (UU 𝒱₀ EP K)

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

/-! ## The proof data, at any contents of the buffers -/

variable (V : (c : Dev nD) → (b : Ref sig .tc) → Buf (Elt F) ((c : Thread nD τ).loc b)) (b : ℕ)

/-- Window `w`'s block, as the fetch stages it. -/
def stg (c : Dev nD) (w : Fin 13) : ((cfg1.win w).xblock (cfg1.grid.coords t1_0)).Idx → Elt F (cfg1.win w).elt :=
  ((cfg1.win w).blk t1_0).view.read (Elt F) (V c (Pipeline.arrRef spec1 w))

/-- What the kernel leaves in the result. -/
def mlpOut (c : Dev nD) : Vec F S2048x8 .f32 :=
  mlp (stg V c 0) (stg V c 1) (stg V c 2) (stg V c 3) (stg V c 4) (stg V c 5) (stg V c 6) (stg V c 7) (stg V c 8) (stg V c 9)
    (stg V c 10) (stg V c 11)

/-- The waits recorded so far stay at or below level `b`. -/
def low (c : Dev nD) : Set (SemLoc sig × HIx 1) := {p | (K (F := F)).lev ((c : Thread nD τ), p.1) p.2 ≤ b}

/-- The region's proof data: the arrays at `V`, each operand's block left as fetched, the result's at `mlpOut`, nothing owed. -/
def dat (c : Dev nD) : Dat τ (Elt F) (HIx 1) ℕ UU ℕ cfg1 c where
  A w := V c (Pipeline.arrRef spec1 w)
  after w _ := match w with
    | ⟨0, _⟩ => stg V c 0
    | ⟨1, _⟩ => stg V c 1
    | ⟨2, _⟩ => stg V c 2
    | ⟨3, _⟩ => stg V c 3
    | ⟨4, _⟩ => stg V c 4
    | ⟨5, _⟩ => stg V c 5
    | ⟨6, _⟩ => stg V c 6
    | ⟨7, _⟩ => stg V c 7
    | ⟨8, _⟩ => stg V c 8
    | ⟨9, _⟩ => stg V c 9
    | ⟨10, _⟩ => stg V c 10
    | ⟨11, _⟩ => stg V c 11
    | ⟨12, _⟩ => mlpOut V c
    | ⟨_ + 13, h⟩ => absurd h (Nat.not_lt.2 (Nat.le_add_left _ _))
  Φ _ := BI.emp
  q w := Pipeline.shareOf spec1 w
  owed _ := 0
  recorded _ := low (F := F) b c

/-- Before the body an operand's staging buffer holds its block. -/
theorem before_in (c : Dev nD) (w : Fin 13) (hf : (cfg1.win w).fetch t1_0 = true) (d : (cfg1.win w).block.Idx → Elt F (cfg1.win w).elt) :
    (dat V b c).before w t1_0 d = (dat V b c).fetched w t1_0 d := by
  unfold Dat.before; rw [if_pos hf]

/-- Before the body, window 0's staging buffer holds its block. -/
theorem before_0 (c : Dev nD) (d) : (dat V b c).before 0 t1_0 d = stg V c 0 := before_in V b c 0 (fetch1_0 t1_0) d
/-- Before the body, window 1's staging buffer holds its block. -/
theorem before_1 (c : Dev nD) (d) : (dat V b c).before 1 t1_0 d = stg V c 1 := before_in V b c 1 (fetch1_1 t1_0) d
/-- Before the body, window 2's staging buffer holds its block. -/
theorem before_2 (c : Dev nD) (d) : (dat V b c).before 2 t1_0 d = stg V c 2 := before_in V b c 2 (fetch1_2 t1_0) d
/-- Before the body, window 3's staging buffer holds its block. -/
theorem before_3 (c : Dev nD) (d) : (dat V b c).before 3 t1_0 d = stg V c 3 := before_in V b c 3 (fetch1_3 t1_0) d
/-- Before the body, window 4's staging buffer holds its block. -/
theorem before_4 (c : Dev nD) (d) : (dat V b c).before 4 t1_0 d = stg V c 4 := before_in V b c 4 (fetch1_4 t1_0) d
/-- Before the body, window 5's staging buffer holds its block. -/
theorem before_5 (c : Dev nD) (d) : (dat V b c).before 5 t1_0 d = stg V c 5 := before_in V b c 5 (fetch1_5 t1_0) d
/-- Before the body, window 6's staging buffer holds its block. -/
theorem before_6 (c : Dev nD) (d) : (dat V b c).before 6 t1_0 d = stg V c 6 := before_in V b c 6 (fetch1_6 t1_0) d
/-- Before the body, window 7's staging buffer holds its block. -/
theorem before_7 (c : Dev nD) (d) : (dat V b c).before 7 t1_0 d = stg V c 7 := before_in V b c 7 (fetch1_7 t1_0) d
/-- Before the body, window 8's staging buffer holds its block. -/
theorem before_8 (c : Dev nD) (d) : (dat V b c).before 8 t1_0 d = stg V c 8 := before_in V b c 8 (fetch1_8 t1_0) d
/-- Before the body, window 9's staging buffer holds its block. -/
theorem before_9 (c : Dev nD) (d) : (dat V b c).before 9 t1_0 d = stg V c 9 := before_in V b c 9 (fetch1_9 t1_0) d
/-- Before the body, window 10's staging buffer holds its block. -/
theorem before_10 (c : Dev nD) (d) : (dat V b c).before 10 t1_0 d = stg V c 10 := before_in V b c 10 (fetch1_10 t1_0) d
/-- Before the body, window 11's staging buffer holds its block. -/
theorem before_11 (c : Dev nD) (d) : (dat V b c).before 11 t1_0 d = stg V c 11 := before_in V b c 11 (fetch1_11 t1_0) d

/-- What the body is called with, the windows one by one, -/
def bodyPre (c : Dev nD) : sProp 𝕄 :=
  iprop((dat V b c).Φ t1_0.castSucc ∗ (dat V b c).owesAt none t1_0.castSucc
    ∗ (∃ d, owns (c : Thread nD τ) (st1_0 t1_0) fullShare ((dat V b c).before 0 t1_0 d))
    ∗ (∃ d, owns (c : Thread nD τ) (st1_1 t1_0) fullShare ((dat V b c).before 1 t1_0 d))
    ∗ (∃ d, owns (c : Thread nD τ) (st1_2 t1_0) fullShare ((dat V b c).before 2 t1_0 d))
    ∗ (∃ d, owns (c : Thread nD τ) (st1_3 t1_0) fullShare ((dat V b c).before 3 t1_0 d))
    ∗ (∃ d, owns (c : Thread nD τ) (st1_4 t1_0) fullShare ((dat V b c).before 4 t1_0 d))
    ∗ (∃ d, owns (c : Thread nD τ) (st1_5 t1_0) fullShare ((dat V b c).before 5 t1_0 d))
    ∗ (∃ d, owns (c : Thread nD τ) (st1_6 t1_0) fullShare ((dat V b c).before 6 t1_0 d))
    ∗ (∃ d, owns (c : Thread nD τ) (st1_7 t1_0) fullShare ((dat V b c).before 7 t1_0 d))
    ∗ (∃ d, owns (c : Thread nD τ) (st1_8 t1_0) fullShare ((dat V b c).before 8 t1_0 d))
    ∗ (∃ d, owns (c : Thread nD τ) (st1_9 t1_0) fullShare ((dat V b c).before 9 t1_0 d))
    ∗ (∃ d, owns (c : Thread nD τ) (st1_10 t1_0) fullShare ((dat V b c).before 10 t1_0 d))
    ∗ (∃ d, owns (c : Thread nD τ) (st1_11 t1_0) fullShare ((dat V b c).before 11 t1_0 d))
    ∗ (∃ d, owns (c : Thread nD τ) (st1_12 t1_0) fullShare ((dat V b c).before 12 t1_0 d)))

/-- and what it returns. -/
def bodyPost (c : Dev nD) : sProp 𝕄 :=
  iprop((dat V b c).Φ t1_0.succ ∗ (dat V b c).owesAt none t1_0.succ
    ∗ owns (c : Thread nD τ) (st1_0 t1_0) fullShare ((dat V b c).after 0 t1_0)
    ∗ owns (c : Thread nD τ) (st1_1 t1_0) fullShare ((dat V b c).after 1 t1_0)
    ∗ owns (c : Thread nD τ) (st1_2 t1_0) fullShare ((dat V b c).after 2 t1_0)
    ∗ owns (c : Thread nD τ) (st1_3 t1_0) fullShare ((dat V b c).after 3 t1_0)
    ∗ owns (c : Thread nD τ) (st1_4 t1_0) fullShare ((dat V b c).after 4 t1_0)
    ∗ owns (c : Thread nD τ) (st1_5 t1_0) fullShare ((dat V b c).after 5 t1_0)
    ∗ owns (c : Thread nD τ) (st1_6 t1_0) fullShare ((dat V b c).after 6 t1_0)
    ∗ owns (c : Thread nD τ) (st1_7 t1_0) fullShare ((dat V b c).after 7 t1_0)
    ∗ owns (c : Thread nD τ) (st1_8 t1_0) fullShare ((dat V b c).after 8 t1_0)
    ∗ owns (c : Thread nD τ) (st1_9 t1_0) fullShare ((dat V b c).after 9 t1_0)
    ∗ owns (c : Thread nD τ) (st1_10 t1_0) fullShare ((dat V b c).after 10 t1_0)
    ∗ owns (c : Thread nD τ) (st1_11 t1_0) fullShare ((dat V b c).after 11 t1_0)
    ∗ owns (c : Thread nD τ) (st1_12 t1_0) fullShare ((dat V b c).after 12 t1_0))

/-- The body takes the one to the other. -/
theorem sound_body [∀ e, Nonempty (Elt F e)] (c : Dev nD) :
    bodyPre V b c ⊢ wp frame (wpE (defs₀ (F := F)) Variants.none c none) Set.univ (bodyAt1 t1_0) (fun _ => bodyPost V b c) := by
  unfold bodyPre bodyPost bodyAt1
  simp only [before_0, before_1, before_2, before_3, before_4, before_5, before_6, before_7, before_8, before_9, before_10, before_11]
  rw [show (dat V b c).Φ t1_0.succ = (dat V b c).Φ t1_0.castSucc from rfl,
    show (dat V b c).owesAt none t1_0.succ = (dat V b c).owesAt none t1_0.castSucc from rfl,
    show (dat V b c).after 0 t1_0 = stg V c 0 from rfl,
    show (dat V b c).after 1 t1_0 = stg V c 1 from rfl,
    show (dat V b c).after 2 t1_0 = stg V c 2 from rfl,
    show (dat V b c).after 3 t1_0 = stg V c 3 from rfl,
    show (dat V b c).after 4 t1_0 = stg V c 4 from rfl,
    show (dat V b c).after 5 t1_0 = stg V c 5 from rfl,
    show (dat V b c).after 6 t1_0 = stg V c 6 from rfl,
    show (dat V b c).after 7 t1_0 = stg V c 7 from rfl,
    show (dat V b c).after 8 t1_0 = stg V c 8 from rfl,
    show (dat V b c).after 9 t1_0 = stg V c 9 from rfl,
    show (dat V b c).after 10 t1_0 = stg V c 10 from rfl,
    show (dat V b c).after 11 t1_0 = stg V c 11 from rfl,
    show (dat V b c).after 12 t1_0 = mlpOut V c from rfl]
  unfold mlpOut
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_owns (grid1.coords t1_0) c _ _ _ _ _ _ _ _ _ _ _ _ _ _ _ _ _ _ _ _ _ _ _ _ _ _ (stg V c 0) (stg V c 1) (stg V c 2) (stg V c 3) (stg V c 4) (stg V c 5) (stg V c 6) (stg V c 7) (stg V c 8) (stg V c 9) (stg V c 10) (stg V c 11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point's slots is the body as `bodyAt1` spells it. -/
theorem defs₀_row (t : Fin cfg1.N) : defs₀ (F := F) .tc cfg1.body (cfg1.bodyArgs t (cfg1.slots t)) = bodyAt1 t := by
  rfl

/-- The body's obligation to the pipeline. -/
theorem body_obligation [∀ e, Nonempty (Elt F e)] (c : Dev nD) : BodyObligation (dat V b c) (defs₀ (F := F)) 𝒱₀ none Set.univ := fun t => by
  obtain rfl := fin_N1 t
  rw [bigSep_W1, bigSep_W1, defs₀_row]
  exact triple_restated (sound_body V b c) rfl .rfl fun _ => .rfl

/-! ## The region over the thread's state -/

/-- The result's array after the region is what the body left. -/
theorem out_array (c : Dev nD) : (dat V b c).arrAt 12 cfg1.N = mlpOut V c := by
  refine (dat V b c).arrAt_eq_of_covers 12 _ (by decide +kernel) fun t hf y => ?_
  obtain rfl := fin_N1 t
  blk_simp
  have he : (win1_12.blk t1_0).view.emb y = y := by
    funext k
    apply Fin.ext
    fin_cases k
    · show (0 * 2048 + 1 * (y 0 : ℕ)) = (y 0 : ℕ)
      omega
    · show (0 * 8 + 1 * (y 1 : ℕ)) = (y 1 : ℕ)
      omega
  exact (congrArg (mlpOut V c) he.symm :)

/-- The pipeline is admissible. -/
abbrev adm : (p : Fin 1) → (pcfgs (F := F) p).Adm := fun p => (cfgs p).toPCfg_adm
/-- The region's proof data, as the pipeline takes it. -/
def pdats : (p : Fin 1) → (c : Dev nD) → Dat τ (Elt F) (HIx 1) ℕ UU ℕ (Pipeline.pin (pcfgs (F := F)) adm p) c := fun _ c => dat V b c

variable (Vp : (c : Dev nD) → (b : Ref sig .tc) → Buf (Elt F) ((c : Thread nD τ).loc b))

set_option backward.isDefEq.respectTransparency.types false in
/-- The region, entered with every buffer at `V` and left with the result at `mlpOut` and the others as they were. -/
def reg [∀ e, Nonempty (Elt F e)] (hout : ∀ c, Vp c main_v94 = mlpOut V c)
    (hne : ∀ c (r : Ref sig .tc), r ≠ main_v94 → Vp c r = V c r) :
    Pipeline.RegionSeg (pcfgs (F := F)) adm (pdats V b) none (defs₀ (F := F)) 𝒱₀ (K (F := F)).L (K (F := F)).lev 0 where
  win := winFacts₀1
  block_pos := block_pos1
  stage_whole := stage_whole1
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W b⌝ ∗ owes (c : Thread nD τ) (0 : CellTallies nD τ sig (HIx 1)) W)
  post c := iprop(unscopedBufs c (Vp c) ∗ ∃ W, ⌜(K (F := F)).WBelow (c : Thread nD τ) W b⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs_shared (p := 0) (pcfgs (F := F)) adm (pdats V b) winFacts₀1 sharedIn1 arr_whole1 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b 0 c).Φ 0 = BI.emp from rfl]
    iintro ⟨-, -, -⟩; iempintro
  hout c := by
    rw [Pipeline.ownSems0_none, show (pdats V b 0 c).Φ (Fin.last _) = BI.emp from rfl]
    iintro -
    isplitr; · iempintro
    isplitr; · iempintro
    rw [show (Pipeline.scopedRest (Pipeline.pin (pcfgs (F := F)) adm 0).spec c : sProp 𝕄) = BI.emp from scopedRest1_eq c]
    iempintro
  hexit c := by
    have hjoin := Pipeline.unscopedBufs_of_arrays_shared (p := 0) (pcfgs (F := F)) adm (Ix := HIx 1) (Name := ℕ) (U := UU) (Lvl := ℕ)
      winFacts₀1 sharedIn1 arr_whole1 c (pdats V b) (fun _ _ => rfl) (V c) (Vp c) ((pdats V b 0 c).arrAt · cfg1.N)
      (fun w => by
        by_cases hw : w = (12 : Fin 13)
        · subst hw; exact (out_array V b c).trans (hout c).symm
        · exact ((pdats V b 0 c).arrAt_in w ((by decide : ∀ w : Fin 13, w ≠ 12 → (spec1 w).isOut = false) w hw) _).trans
            (hne c _ ((by decide : ∀ w : Fin 13, w ≠ 12 → Pipeline.arrRef spec1 w ≠ main_v94) w hw)).symm)
      (fun r hr => hne c r fun h => hr (h ▸ Finset.mem_image.mpr ⟨12, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Tc

end
-- ==== Proof.Main.lean ====
/- The whole program's run: the first host operations, the gather, the weights, the dense layers' region, the result.
   The run is stated over any float values, so that it serves the program as printed and the program over the extended
   reals alike. -/
module

public import proofs.«01_k».proof.Proof.Ops
public import proofs.«01_k».proof.Proof.TileBody
public import proofs.«01_k».proof.Proof.Region
public import Idealize.ShloMosaic.Lib.Pipeline.FrameTail

@[expose] public section

noncomputable section

namespace Cert.Proof.Host

open Cert.KernelIdeal Cert.KernelIdeal.Gen
open Cert.Proof.Sc Cert.Proof.Tc

open Idealize.ShloMosaic
open Idealize.ShloMosaic.StableHlo
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents after each part -/

/-- A buffer of the thread, as a buffer of the device. -/
abbrev dr (r : Ref sig .tc) : DevRef τ sig := Proc.devRef .tc r

/-- After the first operations. -/
def V1 (d : Dev nD) : Valuation τ sig (Elt F) := after preOps (launchContents m d)
/-- The positions the gather reads, -/
def Iw : (d : Dev nD) → Buf (Elt F) (wLoc d) := fun d => V1 m d (dr main_v27)
/-- and the table as it lies. -/
def Tb : (d : Dev nD) → Buf (Elt F) (tLoc d) := fun d => V1 m d (dr main_v31)
/-- After the gather. -/
def V2 (d : Dev nD) : Valuation τ sig (Elt F) := Function.update (V1 m d) (dr main_v32) (outF (Iw m) (Tb m) d)
/-- After the weights. -/
def V3 (d : Dev nD) : Valuation τ sig (Elt F) := after midOps (V2 m d)
/-- The same, buffer by buffer of the thread. -/
def B3 (c : Dev nD) (r : Ref sig .tc) : Buf (Elt F) ((c : Thread nD τ).loc r) := V3 m c (dr r)
/-- After the dense layers. -/
def V4 (d : Dev nD) : Valuation τ sig (Elt F) := Function.update (V3 m d) (dr main_v94) (mlpOut (B3 m) d)
/-- The same, buffer by buffer of the thread. -/
def B4 (c : Dev nD) (r : Ref sig .tc) : Buf (Elt F) ((c : Thread nD τ).loc r) := V4 m c (dr r)
/-- At the end. -/
def V5 (d : Dev nD) : Valuation τ sig (Elt F) := after postOps (V4 m d)

/-- The dense layers' result is in its buffer, -/
theorem B4_out (c : Dev nD) : B4 m c main_v94 = mlpOut (B3 m) c :=
  (Function.update_self (dr main_v94) (show (dr main_v94).ty.Contents (Elt F) from mlpOut (B3 m) c) (V3 m c) :)
/-- and the other buffers are as they were. -/
theorem B4_ne (c : Dev nD) (r : Ref sig .tc) (h : r ≠ main_v94) : B4 m c r = B3 m c r :=
  Function.update_of_ne (devRef_ne_of_ne h) _ _

/-- A buffer no part of the program writes ends as it was. -/
theorem V5_kept (d : Dev nD) (r : Ref sig .tc) (h : r ∉ preOpsW ++ main_v32 :: midOpsW ++ main_v94 :: postOpsW) :
    V5 m d (dr r) = m (d, dr r) := by
  simp only [List.mem_append, List.mem_cons, not_or] at h
  obtain ⟨⟨h1, h2, h3⟩, h4, h5⟩ := h
  refine (after_of_writes_sub postOps _ postOps_writes (by simpa using h5)).trans ?_
  refine (Function.update_of_ne (devRef_ne_of_ne h4) _ _).trans ?_
  refine (after_of_writes_sub midOps _ midOps_writes (by simpa using h3)).trans ?_
  refine (Function.update_of_ne (devRef_ne_of_ne h2) _ _).trans ?_
  exact after_of_writes_sub preOps _ preOps_writes (by simpa using h1)

/-! ## The gather's three arrays -/

/-- The buffers the gather is given. -/
abbrev three : Finset (DevRef τ sig) := {dr main_v27, dr main_v31, dr main_v32}

/-- They are the thread's. -/
theorem three_sub : three ⊆ Pipeline.ucRefs τ sig := by decide +kernel

/-- Holding them is holding each. -/
theorem held_three (d : Dev nD) (W : Valuation τ sig (Elt F)) :
    (held (d : Thread nD τ) three W : sProp 𝕄)
      = iprop((wLoc d ↦{fullShare} W (dr main_v27)) ∗ (tLoc d ↦{fullShare} W (dr main_v31)) ∗ oLoc d ↦{fullShare} W (dr main_v32)) := by
  unfold held
  rw [SparseCore.bigSep_insert' (by decide), SparseCore.bigSep_insert' (by decide), bigSep_singleton]

/-- After the first operations the gather's arrays come out of the thread's buffers, -/
theorem take_three (d : Dev nD) :
    (held (d : Thread nD τ) (Pipeline.ucRefs τ sig) (V1 m d) : sProp 𝕄)
      ⊢ iprop(((wLoc d ↦{fullShare} Iw m d) ∗ (tLoc d ↦{fullShare} Tb m d) ∗ ∃ f, oLoc d ↦{fullShare} f)
        ∗ held (d : Thread nD τ) (Pipeline.ucRefs τ sig \ three) (V1 m d)) := by
  rw [held_sub_split _ three_sub, held_three]
  iintro ⟨⟨Hw, Ht, Ho⟩, Hr⟩
  isplitr [Hr]
  · isplitl [Hw]; · iexact Hw
    isplitl [Ht]; · iexact Ht
    iexists _; iexact Ho
  iexact Hr

/-- and go back with the looked-up elements. -/
theorem put_three (d : Dev nD) :
    iprop(((wLoc d ↦{fullShare} Iw m d) ∗ (tLoc d ↦{fullShare} Tb m d) ∗ oLoc d ↦{fullShare} outF (Iw m) (Tb m) d)
        ∗ held (d : Thread nD τ) (Pipeline.ucRefs τ sig \ three) (V1 m d))
      ⊢ (held (d : Thread nD τ) (Pipeline.ucRefs τ sig) (V2 m d) : sProp 𝕄) := by
  have hr : (held (d : Thread nD τ) (Pipeline.ucRefs τ sig \ three) (V2 m d) : sProp 𝕄)
      = held (d : Thread nD τ) (Pipeline.ucRefs τ sig \ three) (V1 m d) :=
    held_congr _ fun b hb => Function.update_of_ne (fun e => (Finset.mem_sdiff.mp hb).2 (by rw [e]; simp [three])) _ _
  have h1 : V2 m d (dr main_v27) = Iw m d := Function.update_of_ne (devRef_ne_of_ne (by decide)) _ _
  have h2 : V2 m d (dr main_v31) = Tb m d := Function.update_of_ne (devRef_ne_of_ne (by decide)) _ _
  have h3 : V2 m d (dr main_v32) = outF (Iw m) (Tb m) d := Function.update_self _ _ _
  rw [held_sub_split _ three_sub, held_three, hr, h1, h2, h3]

/-! ## The dense layers' region, in the program -/

/-- Its record over this program's contents, between waits at or below level `b`. -/
def rg [∀ e, Nonempty (Elt F e)] (b : ℕ) := reg (B3 m) b (B4 m) (B4_out m) (B4_ne m)

/-- The thread's state around the region: its buffers at `B`, nothing owed, its waits at or below `b`. -/
abbrev around (B : (c : Dev nD) → (r : Ref sig .tc) → Buf (Elt F) ((c : Thread nD τ).loc r)) (b : ℕ) (d : Dev nD) : sProp 𝕄 :=
  iprop(unscopedBufs d (B d) ∗ ∃ W, ⌜(K (F := F)).WBelow (d : Thread nD τ) W b⌝ ∗ owes (d : Thread nD τ) (0 : CellTallies nD τ sig (HIx 1)) W)

/-- The region's call, in the program's signature. -/
theorem region_wp [∀ e, Nonempty (Elt F e)] (b : ℕ) (d : Dev nD) (Q : PUnit → sProp 𝕄) :
    iprop((iprop(boundary (d : Thread nD τ) ∗ around (B4 m) b d) -∗ Q ⟨⟩)
        ∗ boundary (d : Thread nD τ) ∗ around (B3 m) b d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (d : Thread nD τ) none) Set.univ
          (Prog.lift (.customCall (SparseCore.inner (Pipeline.entry 0)) ())) Q := by
  have h := Pipeline.RegionSeg.wp (pcfgs (F := F)) adm (pdats (B3 m) b) none cellOf_inj EP (defs₀ (F := F)) 𝒱₀ (K (F := F)).L (K (F := F)).lev
    (rg m b) d none (fun _ hu => nomatch hu) (fun _ => .ret ⟨⟩) Q
  have hq : iprop(iprop(boundary (d : Thread nD τ) ∗ around (B4 m) b d) -∗ Q ⟨⟩)
      ⊢ (iprop(iprop(boundary (d : Thread nD τ) ∗ around (B4 m) b d)
        -∗ wp frame (wpE (Pipeline.defs (pcfgs (F := F)) defs₀) 𝒱₀.lift (d : Thread nD τ) none) Set.univ (.ret ⟨⟩) Q) : sProp 𝕄) := by
    refine wand_mono_right ?_
    rw [show (Prog.ret ⟨⟩ : Prog (TpuEff nD τ sig (Elt F) (ΛP (F := F)) .tc) PUnit) = pure ⟨⟩ from rfl, wp_pure]
    iintro H
    imodintro
    iexact H
  exact (sep_mono_left hq).trans (h.trans ((K (F := F)).wp_liftProg (D (F := F)) 𝒱 (d : Thread nD τ) Set.univ none _ Q))

/-! ## The launch's ghost state -/

/-- The pipeline's ghost state on a device. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The handshakes' rounds and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- Dealing them. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (Iw m) (Tb m)).x q thr) := by
  have hx : (bigSep Finset.univ fun thr : Thread nD τ => bigSep Finset.univ fun q : Fin 1 => (P (F := F) (Iw m) (Tb m)).x q thr)
      = (BI.emp : sProp 𝕄) :=
    (bigSep_congr fun _ _ => bigSep_univ_of_subsingleton (0 : Fin 1)).trans (bigSep_emp_const _)
  have hg : iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c))
      ⊢ (bigSep Finset.univ fun d : Dev nD => G (F := F) d : sProp 𝕄) := by
    rw [← bigSep_sep']
    exact bigSep_mono fun d _ => by
      rw [bigSep_univ_of_subsingleton (0 : Fin 1), bigSep_univ_of_subsingleton (0 : Fin 1)]
      exact .refl _
  rw [hx]
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP cellOf_inj) $$ [HP] with Hg
  · iexact HP
  imodintro
  isplitl [HH]; · iexact HH
  isplitl [Hg]; · iapply hg; iexact Hg
  iempintro

/-! ## @main on the TensorCore -/

/-- What it ends with: its buffers. -/
abbrev FIN (d : Dev nD) : sProp 𝕄 := held (d : Thread nD τ) (Pipeline.ucRefs τ sig) (V5 m d)

/-- The thread's launch buffers are held at the launch contents. -/
theorem launch_held (d : Dev nD) :
    (unscopedBufs d (fun b => m ((SparseCore.T d).loc b)) : sProp 𝕄) = held (d : Thread nD τ) (Pipeline.ucRefs τ sig) (launchContents m d) :=
  Pipeline.unscopedBufs_held d (launchContents m d)

/-- Before the region, the buffers as the region takes them. -/
theorem held_B3 (d : Dev nD) : (held (d : Thread nD τ) (Pipeline.ucRefs τ sig) (V3 m d) : sProp 𝕄) = unscopedBufs d (B3 m d) :=
  (Pipeline.unscopedBufs_held d (V3 m d)).symm

/-- After it, as it leaves them. -/
theorem held_B4 (d : Dev nD) : (unscopedBufs d (B4 m d) : sProp 𝕄) = held (d : Thread nD τ) (Pipeline.ucRefs τ sig) (V4 m d) :=
  Pipeline.unscopedBufs_held d (V4 m d)

/-- After the one call the TensorCore owes nothing; the rest of its state aside. -/
theorem tcSt_open (d : Dev nD) : ∃ (b : ℕ) (R : sProp 𝕄), (K (F := F)).tcSt EH d 1
    = iprop((∃ W, ⌜(K (F := F)).WBelow (d : Thread nD τ) W b⌝ ∗ owes (d : Thread nD τ) (0 : CellTallies nD τ sig (HIx 1)) W) ∗ R) := by
  unfold SparseCore.Cfg.tcSt
  rw [(K (F := F)).Otc_end d (n := 1) le_rfl]
  exact ⟨_, _, rfl⟩

/-- @main, from the launch's deal to its end. -/
theorem hmain [∀ e, Nonempty (Elt F e)] (κ : GSem nD τ sig → ℕ) (d : Dev nD) :
    iprop((K (F := F)).ctx EH (P (Iw m) (Tb m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨b, R, hR⟩ := tcSt_open (F := F) d
  unfold SparseCore.Cfg.tcRes SparseCore.Cfg.tcEnd G
  rw [main_eq, launch_held]
  iintro ⟨#Hctx, Hst, ⟨Hb, Hh, Hts, -⟩, Hcg, Htk⟩
  ihave #Hlev := (SparseCore.Cfg.ctx_levAts κ) $$ Hctx
  iapply (wp_seq 𝒱 none Set.univ d (Pipeline.ucRefs τ sig) _ preOps preOps_bufs preOps_fresh (launchContents m d)) $$ [Hb Hh]
  · isplitl [Hb] <;> iassumption
  rw [show after preOps (launchContents m d) = V1 m d from rfl]
  iintro ⟨Hb, Hh⟩
  ihave H := (take_three m d) $$ Hh
  icases H with ⟨H3, Hr⟩
  rw [wp_bind]
  iapply ((K (F := F)).wp_run (D (F := F)) 𝒱 (EH := EH) (P := P (Iw m) (Tb m)) κ d 0)
  isplitr; · iexact Hctx
  isplitl [Hst]; · iexact Hst
  isplitl [H3]; · iapply (st0_of (Iw m) (Tb m) d); iexact H3
  iintro ⟨Hst, Hdn⟩
  ihave H3 := (dn0_of (Iw m) (Tb m) d) $$ Hdn
  ihave Hh := (put_three m d) $$ [H3 Hr]
  · isplitl [H3] <;> iassumption
  iapply (wp_seq 𝒱 none Set.univ d (Pipeline.ucRefs τ sig) _ midOps midOps_bufs midOps_fresh (V2 m d)) $$ [Hb Hh]
  · isplitl [Hb] <;> iassumption
  rw [show after midOps (V2 m d) = V3 m d from rfl]
  iintro ⟨Hb, Hh⟩
  ihave Hu := (Entails.of_eq (held_B3 m d)) $$ Hh
  ihave Hst := (show (K (F := F)).tcSt EH d ((0 : Fin 1).val + 1) ⊢ _ from Entails.of_eq hR) $$ Hst
  icases Hst with ⟨HO, HR⟩
  rw [wp_bind]
  iapply (region_wp m b d)
  isplitr [Hb Hu HO Hcg Htk]
  · iintro ⟨Hb, Hu, HO⟩
    ihave Hh := (Entails.of_eq (held_B4 m d)) $$ Hu
    iapply (wp_seq 𝒱 none Set.univ d (Pipeline.ucRefs τ sig) _ postOps postOps_bufs postOps_fresh (V4 m d)) $$ [Hb Hh]
    · isplitl [Hb] <;> iassumption
    rw [show after postOps (V4 m d) = V5 m d from rfl]
    iintro ⟨Hb, Hh⟩
    rw [wp_pure]
    imodintro
    isplitl [HO HR]
    · rw [hR]
      isplitl [HO] <;> iassumption
    isplitl [Hh]; · iexact Hh
    isplitl [Hb] <;> iassumption
  isplitl [Hb]; · iexact Hb
  isplitl [Hu HO]
  · isplitl [Hu] <;> iassumption
  isplitr; · iexact Hlev
  isplitl [Hcg] <;> iassumption

/-- What a final state has: every buffer of the thread as computed. -/
def fq (d : Dev nD) (s' : Phys nD τ sig (Elt F)) : Prop :=
  ∀ r : Ref sig .tc, r.isScoped = false → s'.mem.mem ((d : Thread nD τ).loc r) = V5 m d (dr r)

/-- Reading it off. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact fun r hr => h _ (Pipeline.devRef_mem_ucRefs hr)

/-! ## The run -/

/-- Every execution ends, with every buffer of the thread as computed and every counter at zero. -/
theorem run_main [∀ e, Nonempty (Elt F e)] (hI : InRange (Iw m)) :
    θ_run (Cert.KernelIdeal.defs (F := F)) (Cert.KernelIdeal.threads (F := F)) ⟨m, fun _ => 0, ρ⟩
      (fun r => (∀ (d : Dev nD) (b : Ref sig .tc), b.isScoped = false → r.2.mem ((d : Thread nD τ).loc b) = V5 m d (dr b)) ∧ r.2.sem = fun _ => 0) :=
  SparseCore.Cfg.θ_run_sc_quiescent (K := K (F := F)) (D := D (F := F)) (𝒱 := 𝒱) (EH := EH) (P := P (Iw m) (Tb m)) (A := ∅) facts v₀
    (fun q hq => match q with | 0 => nomatch hq)
    (fun q _ => match q with | 0 => tileObl (Iw m) (Tb m) hI)
    (fun q _ => match q with | 0 => SparseCore.Cfg.VecSplit.of_plain (vecSplit (Iw m) (Tb m)))
    m ρ main (G (F := F)) (FIN m) (u₀ (F := F)) (sep_elim_left.trans (hu₀ m)) (hmain m ρ) (fq m) (hfin m) _ (fun _ h hz => ⟨h, hz⟩)

end Cert.Proof.Host

end
-- ==== Proof.Positions.lean ====
/- The positions the gather reads, and the table as it lies in the flat array: both as terms of the arguments, read at an
   index. Lookup `n` (of 32768, the users' first) has the table's row `row X n`; component `e` of it lies at
   `(row / 128) * 1024 + row % 128 + (e / 8) * 16000000 + (e % 8) * 128`. -/
module

public import proofs.«01_k».proof.Proof.Main
public import Idealize.ShloMosaic.Lib.Pointwise

@[expose] public section

noncomputable section

namespace Cert.Proof.Host

open Cert.KernelIdeal Cert.KernelIdeal.Gen
open Cert.KernelIdeal.Facts
open Cert.Proof.Sc Cert.Proof.Tc

open Idealize.ShloMosaic
open Idealize.ShloMosaic.StableHlo

variable {F : FTy → Type} [FloatOps F]

/-! ## The terms -/

/-- The table's rows, the users' lookups first and the items' after. -/
def rowsT (X : IVec S16384x2 32) : IVec S32768 32 :=
  shapeCast S32768 (transpose S2x16384 [1, 0] (addi X (broadcastInDim S16384x2 ![0, 1] bcast_S1x2_S16384x2_0_1
    (broadcastInDim S1x2 ![1] bcast_S2_S1x2_1 (fun i => lit0 (S2.rowMajor i))))) transposes_S16384x2_S2x16384_1_0) shapeCasts_S2x16384_S32768

/-- Where a row's first component lies. -/
def baseT (X : IVec S16384x2 32) : IVec S32768 32 :=
  addi (muli (Host.shrsi (rowsT X) (broadcastInDim S32768 ![] bcast_S_S32768 (constantI S_ 32 7#32)))
      (broadcastInDim S32768 ![] bcast_S_S32768 (constantI S_ 32 1024#32)))
    (andi (rowsT X) (broadcastInDim S32768 ![] bcast_S_S32768 (constantI S_ 32 127#32)))

/-- How far from it each component lies. -/
def dofsT : IVec S16 32 :=
  addi (muli (Host.shrsi (iotaInDim S16 32 0) (broadcastInDim S16 ![] bcast_S_S16 (constantI S_ 32 3#32)))
      (broadcastInDim S16 ![] bcast_S_S16 (constantI S_ 32 16000000#32)))
    (muli (andi (iotaInDim S16 32 0) (broadcastInDim S16 ![] bcast_S_S16 (constantI S_ 32 7#32)))
      (broadcastInDim S16 ![] bcast_S_S16 (constantI S_ 32 128#32)))

/-- The positions the gather reads. -/
def posT (X : IVec S16384x2 32) : IVec S4096x128 32 :=
  shapeCast S4096x128 (addi
    (broadcastInDim S32768x16 ![0, 1] bcast_S32768x1_S32768x16_0_1 (broadcastInDim S32768x1 ![0] bcast_S32768_S32768x1_0 (baseT X)))
    (broadcastInDim S32768x16 ![0, 1] bcast_S1x16_S32768x16_0_1 (broadcastInDim S1x16 ![1] bcast_S16_S1x16_1 dofsT)))
    shapeCasts_S32768x16_S4096x128

/-- The table as it lies. -/
def flatT {α : Type} (T : S2000000x16.Idx → α) : S32000000.Idx → α :=
  shapeCast S32000000 (transpose S2x15625x8x128 [0, 2, 1, 3]
    (shapeCast S2x8x15625x128 (transpose S16x2000000 [1, 0] T transposes_S2000000x16_S16x2000000_1_0) shapeCasts_S16x2000000_S2x8x15625x128)
    transposes_S2x8x15625x128_S2x15625x8x128_0_2_1_3) shapeCasts_S2x15625x8x128_S32000000

variable (m : (ℓ : Loc nD τ sig) → Buf (Elt F) ℓ)

set_option maxRecDepth 8192 in
/-- The program computes these positions -/
theorem Iw_eq (d : Dev nD) : Iw m d = posT (m (d, dr main_arg0)) := by
  unfold Iw V1 preOps
  after_results_simp <;> rfl

set_option maxRecDepth 8192 in
/-- and this table. -/
theorem Tb_eq (d : Dev nD) : Tb m d = flatT (α := F .f32) (m (d, dr main_arg1)) := by
  unfold Tb V1 preOps
  after_results_simp <;> rfl

/-! ## At an index -/

/-- The two offsets of the table's halves. -/
theorem lit0_apply (k : Fin 2) : lit0 (S2.rowMajor (ix1 k)) = BitVec.ofNat 32 (k.val * 1000000) := by
  revert k; decide

/-- The row lookup `n` reads, as a number. -/
def rowN (X : IVec S16384x2 32) (n : Fin 32768) : ℕ :=
  BitVec.toNat (X (ix2 ⟨n.val % 16384, Nat.mod_lt _ (by omega)⟩ ⟨n.val / 16384, by omega⟩) : BitVec 32) + n.val / 16384 * 1000000

/-- Every entry of the arguments' positions lies in its half of the table. -/
def Small (X : IVec S16384x2 32) : Prop := ∀ i, BitVec.toNat (X i : BitVec 32) < 1000000

variable (X : IVec S16384x2 32)

/-- It is a row of the table. -/
theorem rowN_lt (hX : Small X) (n : Fin 32768) : rowN X n < 2000000 := by
  have := hX (ix2 ⟨n.val % 16384, Nat.mod_lt _ (by omega)⟩ ⟨n.val / 16384, by omega⟩)
  have h2 : n.val / 16384 < 2 := by omega
  unfold rowN; omega

/-- The row lookup `n` reads. -/
theorem rowsT_toNat (hX : Small X) (n : Fin 32768) : BitVec.toNat (rowsT X (ix1 n) : BitVec 32) = rowN X n := by
  have h := hX (ix2 ⟨n.val % 16384, Nat.mod_lt _ (by omega)⟩ ⟨n.val / 16384, by omega⟩)
  have h2 : n.val / 16384 < 2 := by omega
  pointwise [rowsT]
  rw [lit0_apply]
  show BitVec.toNat (_ + _) = _
  rw [BitVec.toNat_add, BitVec.toNat_ofNat]
  unfold rowN
  simp only
  omega

/-- A component's distance from its row's first. -/
theorem dofsT_apply (e : Fin 16) : dofsT (ix1 e) = BitVec.ofNat 32 (e.val / 8 * 16000000 + e.val % 8 * 128) := by
  pointwise [dofsT]
  revert e; decide

/-- A small word shifted right, scaled, and its low bits added. -/
theorem base_word (w : BitVec 32) (h : w.toNat < 2000000) :
    BitVec.toNat (IntOp.addi (IntOp.muli (IntOp.shrsi ArithUnit.host w 7#32) 1024#32) (IntOp.andi w 127#32))
      = w.toNat / 128 * 1024 + w.toNat % 128 := by
  have hs : IntOp.shrsi ArithUnit.host w 7#32 = w >>> (7 : ℕ) := by
    show (if (7#32 : BitVec 32).toNat < 32 then _ else _) = _
    rw [if_pos (by decide)]
    show w.sshiftRight 7 = _
    rw [BitVec.sshiftRight_eq_of_msb_false]
    rw [BitVec.msb_eq_false_iff_two_mul_lt]; omega
  rw [hs]
  show BitVec.toNat (w >>> 7 * 1024#32 + (w &&& 127#32)) = _
  have ha : (w &&& 127#32).toNat = w.toNat % 128 := by
    rw [BitVec.toNat_and]; exact Nat.and_two_pow_sub_one_eq_mod w.toNat 7
  rw [BitVec.toNat_add, BitVec.toNat_mul, BitVec.toNat_ushiftRight, ha, Nat.shiftRight_eq_div_pow]
  simp only [BitVec.toNat_ofNat]
  omega

/-- Where a row's first component lies. -/
theorem baseT_toNat (hX : Small X) (n : Fin 32768) :
    BitVec.toNat (baseT X (ix1 n) : BitVec 32) = rowN X n / 128 * 1024 + rowN X n % 128 := by
  have h := base_word (rowsT X (ix1 n)) (by rw [rowsT_toNat X hX]; exact rowN_lt X hX n)
  rw [rowsT_toNat X hX] at h
  rw [← h]
  pointwise [baseT]

/-- Where component `e` of row `i` lies. -/
def posN (i : ℕ) (e : ℕ) : ℕ := i / 128 * 1024 + i % 128 + e / 8 * 16000000 + e % 8 * 128

/-- It lies in the array. -/
theorem posN_lt (i e : ℕ) (hi : i < 2000000) (he : e < 16) : posN i e < 32000000 := by
  unfold posN; omega

/-- The positions the gather reads. -/
theorem posT_toNat (hX : Small X) (r : Fin 4096) (l : Fin 128) :
    BitVec.toNat (posT X (ix2 r l) : BitVec 32) = posN (rowN X ⟨8 * r.val + l.val / 16, by omega⟩) (l.val % 16) := by
  have hp : posT X (ix2 r l) = baseT X (ix1 ⟨8 * r.val + l.val / 16, by omega⟩) + dofsT (ix1 ⟨l.val % 16, Nat.mod_lt _ (by omega)⟩) := by
    pointwise [posT]
    have e : (⟨r.val * 8 + l.val / 16, by omega⟩ : Fin 32768) = ⟨8 * r.val + l.val / 16, by omega⟩ := Fin.ext (by simp only; omega)
    rw [e]; rfl
  have hn := rowN_lt X hX ⟨8 * r.val + l.val / 16, by omega⟩
  rw [hp, BitVec.toNat_add, baseT_toNat X hX, dofsT_apply, BitVec.toNat_ofNat]
  unfold posN
  simp only
  omega

/-- They lie in the array. -/
theorem posT_lt (hX : Small X) (i : S4096x128.Idx) : BitVec.toNat (posT X i : BitVec 32) < 32000000 := by
  obtain ⟨r, l, rfl⟩ : ∃ (r : Fin 4096) (l : Fin 128), i = ix2 r l := ⟨i 0, i 1, eq_ix2 i⟩
  rw [posT_toNat X hX]
  exact posN_lt _ _ (rowN_lt X hX _) (Nat.mod_lt _ (by omega))

/-- What the positions find in the table as it lies. -/
theorem flatT_apply {α : Type} (T : S2000000x16.Idx → α) (i : Fin 2000000) (e : Fin 16) :
    flatT T (ix1 ⟨posN i.val e.val, posN_lt _ _ i.isLt e.isLt⟩) = T (ix2 i e) := by
  pointwise [flatT]
  congr 2
  · apply Fin.ext; simp only [posN]; omega
  · apply Fin.ext; simp only [posN]; omega

end Cert.Proof.Host

end
-- ==== Proof.Frames.lean ====
/- What holds of every run: the precondition puts every position the gather reads inside the array, so the program ends, its
   arguments unchanged and its counters at zero, as printed and over the extended reals; and the reference, which waits for
   nothing, ends likewise. -/
module

public import proofs.«01_k».proof.Defs
public import proofs.«01_k».proof.Proof.Positions
public import proofs.«01_k».proof.Proof.Gen.Kernel
public import proofs.«01_k».proof.Proof.Gen.ReferenceIdeal.Run
public import proofs.«01_k».proof.Proof.Gen.Pre_in_range
public import Idealize.ShloMosaic.Lib.ReduceAll
public import Idealize.ShloMosaic.Lib.Affine

@[expose] public section

noncomputable section

namespace Cert.Proof.Host

open Cert.KernelIdeal Cert.KernelIdeal.Gen
open Cert.Proof.Sc Cert.Proof.Tc

open Idealize.ShloMosaic Idealize.SL.Sem
open Idealize.ShloMosaic.StableHlo

variable {F : FTy → Type} [FloatOps F]

/-- The precondition, read at each entry. -/
theorem small_of_pre [Cert.Pre_in_range.Facts] (x0 : IVec S16384x2 32) (x1 : FVec F S2000000x16 .f32) (x2 : FVec F S32x64 .f32)
    (x3 : FVec F S64 .f32) (x4 : FVec F S64x32 .f32) (x5 : FVec F S32 .f32) (x6 : FVec F S32x16 .f32) (x7 : FVec F S16 .f32)
    (x8 : FVec F S32x1 .f32) (x9 : FVec F S1 .f32)
    (h : Cert.Pre_in_range.fn x0 x1 x2 x3 x4 x5 x6 x7 x8 x9 = fun _ => 1#1) : Small x0 := by
  intro i
  have e := congrFun h (fun a => a.elim0)
  unfold Cert.Pre_in_range.fn at e
  haveI : Subsingleton (Cert.Pre_in_range.S_).Idx := ⟨fun a b => funext fun k => k.elim0⟩
  have e' := Host.reduce_andi_all _ _ _ _ _ e i
  obtain ⟨h0, h1⟩ := IntOp.andi_eq_one.1 e'
  have h0 := IntOp.cmpi_sge.1 h0
  have h1 := IntOp.cmpi_slt.1 h1
  have h0 : (0#32 : BitVec 32).toInt ≤ (x0 i : BitVec 32).toInt := h0
  have h1 : (x0 i : BitVec 32).toInt < (1000000#32 : BitVec 32).toInt := h1
  rw [show (0#32 : BitVec 32).toInt = 0 from by decide] at h0
  rw [show (1000000#32 : BitVec 32).toInt = 1000000 from by decide] at h1
  rw [BitVec.toInt_eq_toNat_cond] at h0 h1
  split at h0 <;> omega

/-- Small entries put the gather's positions inside the array. -/
theorem inRange_of_small (m : (ℓ : Loc nD τ sig) → Buf (Elt F) ℓ) (h : ∀ d : Dev nD, Small (m (d, dr main_arg0))) : InRange (Iw m) := by
  intro d x
  rw [Iw_eq]
  exact posT_lt _ (h d) x

/-- The program's arguments. -/
abbrev argRefs : List (Ref sig .tc) :=
  [main_arg0, main_arg1, main_arg2, main_arg3, main_arg4, main_arg5, main_arg6, main_arg7, main_arg8, main_arg9]

/-- No part of the program writes an argument. -/
theorem args_kept : ∀ r ∈ argRefs, r ∉ preOpsW ++ main_v32 :: midOpsW ++ main_v94 :: postOpsW := by decide

/-- The run, at the result and the arguments. -/
theorem run_args [∀ e, Nonempty (Elt F e)] (m : (ℓ : Loc nD τ sig) → Buf (Elt F) ℓ) (ρ : Dev nD → PrngReg)
    (h : ∀ d : Dev nD, Small (m (d, dr main_arg0))) :
    θ_run Cert.KernelIdeal.defs Cert.KernelIdeal.threads ⟨m, fun _ => 0, ρ⟩ (fun r => (∀ c : Dev nD,
      r.2.mem ((c.tc : Thread nD τ).loc main_v95) = V5 m c (dr main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run Cert.KernelIdeal.defs _ _).mono (fun r hr => ⟨fun c =>
    have k : ∀ b ∈ argRefs, b.isScoped = false → r.2.mem ((c.tc : Thread nD τ).loc b) = m ((c.tc : Thread nD τ).loc b) :=
      fun b hb hs => (hr.1 c b hs).trans (V5_kept m c b (args_kept b hb))
    ⟨hr.1 c main_v95 rfl, k main_arg0 (by decide) rfl, k main_arg1 (by decide) rfl, k main_arg2 (by decide) rfl,
      k main_arg3 (by decide) rfl, k main_arg4 (by decide) rfl, k main_arg5 (by decide) rfl, k main_arg6 (by decide) rfl,
      k main_arg7 (by decide) rfl, k main_arg8 (by decide) rfl, k main_arg9 (by decide) rfl⟩, hr.2⟩)
    (run_main m ρ (inRange_of_small m h))

set_option maxHeartbeats 4000000 in
set_option maxRecDepth 8192 in
/-- The program over the extended reals ends, its arguments unchanged. -/
theorem frame_ideal : Cert.quiescent_KernelIdeal := fun m ρ hp =>
  (θ_run Cert.KernelIdeal.defs _ _).mono (fun _ h => ⟨fun c => (h.1 c).2, h.2⟩)
    (run_args (F := Ideal) m ρ fun d => small_of_pre _ _ _ _ _ _ _ _ _ _ (hp d))

/-! ## The program as printed is the same text -/

set_option maxRecDepth 8192 in
set_option maxHeartbeats 4000000 in
/-- Its kernels are the same, label by label -/
theorem defs₀_eq : Cert.Kernel.defs₀ (F := Bits) = (Cert.KernelIdeal.defs₀ (F := Bits) :) := by
  funext c ℓ a
  match c, ℓ, a with
  | .tc, 0, _ => rfl
  | .tc, 1, (t, s) => rfl
  | .scScalar _, 0, _ => rfl
  | .scScalar _, 1, _ => rfl
  | .scVector c s, 0, _ => rfl
  | .scVector c s, 1, _ => rfl

set_option maxRecDepth 8192 in
set_option maxHeartbeats 4000000 in
/-- so is its whole table of bodies -/
theorem defs_eq : Cert.Kernel.defs (F := Bits) = (Cert.KernelIdeal.defs (F := Bits) :) :=
  congrArg (fun D => Cert.KernelIdeal.sc.defs (Pipeline.defs (Cert.KernelIdeal.pcfgs (F := Bits)) D)) defs₀_eq

set_option maxRecDepth 8192 in
set_option maxHeartbeats 4000000 in
/-- and so are its threads. -/
theorem threads_eq : Cert.Kernel.threads (F := Bits) = (Cert.KernelIdeal.threads (F := Bits) :) := rfl

set_option maxRecDepth 8192 in
set_option maxHeartbeats 4000000 in
/-- A run of the one is a run of the other. -/
theorem run_kernel (m : (ℓ : Loc nD τ sig) → Buf (Elt Bits) ℓ) (ρ : Dev nD → PrngReg) (Q : PUnit × MemSt nD τ sig (Elt Bits) → Prop)
    (h : θ_run (Cert.KernelIdeal.defs (F := Bits)) Cert.KernelIdeal.threads ⟨m, fun _ => 0, ρ⟩ Q) :
    θ_run (Cert.Kernel.defs (F := Bits)) Cert.Kernel.threads ⟨m, fun _ => 0, ρ⟩ Q := by
  rw [defs_eq, threads_eq]
  exact h

set_option maxHeartbeats 4000000 in
set_option maxRecDepth 8192 in
/-- The program as printed ends, its arguments unchanged. -/
theorem frame_kernel : Cert.quiescent_Kernel := fun m ρ hp =>
  run_kernel m ρ _ ((θ_run Cert.KernelIdeal.defs _ _).mono (fun _ h => ⟨fun c => (h.1 c).2, h.2⟩)
    (run_args (F := Bits) m ρ fun d => small_of_pre _ _ _ _ _ _ _ _ _ _ (hp d)))

/-- The reference ends, its arguments unchanged. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- And so it does on the arguments of the precondition. -/
theorem frame_reference_in_range : Cert.quiescent_ReferenceIdeal_pre_in_range := fun m ρ _ => frame_reference m ρ trivial

end Cert.Proof.Host

end
-- ==== Proof.Weights.lean ====
/- The weights the perceptron is given: each layer's matrix on a diagonal of eight blocks, each bias eight times, as terms of
   the arguments, read at an index over the extended reals. -/
module

public import proofs.«01_k».proof.Proof.Main
public import Idealize.ShloMosaic.Lib.Pointwise

@[expose] public section

noncomputable section

namespace Cert.Proof.Host

open Cert.KernelIdeal Cert.KernelIdeal.Gen
open Cert.KernelIdeal.Facts
open Cert.Proof.Sc Cert.Proof.Tc

open Idealize.ShloMosaic
open Idealize.ShloMosaic.StableHlo

section Terms

variable {F : FTy → Type} [FloatOps F]

/-- One on the diagonal, zero elsewhere. -/
def eyeT : FVec F S8x8 .f32 :=
  uitofp .f32 (cmpi .eq (addi (iotaInDim S8x8 32 0) (broadcastInDim S8x8 ![] bcast_S_S8x8 (constantI S_ 32 0#32))) (iotaInDim S8x8 32 1))

/-- The first layer's weights of the user's row, on a diagonal of eight blocks. -/
def w1uT (W : FVec F S32x64 .f32) : FVec F S128x512 .f32 :=
  shapeCast S128x512 (mulf
    (broadcastInDim S8x16x8x64 ![0, 1, 2, 3] bcast_S8x1x8x1_S8x16x8x64_0_1_2_3 (broadcastInDim S8x1x8x1 ![0, 2] bcast_S8x8_S8x1x8x1_0_2 eyeT))
    (broadcastInDim S8x16x8x64 ![0, 1, 2, 3] bcast_S1x16x1x64_S8x16x8x64_0_1_2_3
      (broadcastInDim S1x16x1x64 ![1, 3] bcast_S16x64_S1x16x1x64_1_3 (extractStridedSlice S16x64 ![0, 0] W slices_S32x64_S16x64_0_0))))
    shapeCasts_S8x16x8x64_S128x512

/-- Its weights of the item's row. -/
def w1vT (W : FVec F S32x64 .f32) : FVec F S128x512 .f32 :=
  shapeCast S128x512 (mulf
    (broadcastInDim S8x16x8x64 ![0, 1, 2, 3] bcast_S8x1x8x1_S8x16x8x64_0_1_2_3 (broadcastInDim S8x1x8x1 ![0, 2] bcast_S8x8_S8x1x8x1_0_2 eyeT))
    (broadcastInDim S8x16x8x64 ![0, 1, 2, 3] bcast_S1x16x1x64_S8x16x8x64_0_1_2_3
      (broadcastInDim S1x16x1x64 ![1, 3] bcast_S16x64_S1x16x1x64_1_3 (extractStridedSlice S16x64 ![16, 0] W slices_S32x64_S16x64_16_0))))
    shapeCasts_S8x16x8x64_S128x512

/-- Its bias, eight times. -/
def b1T (b : FVec F S64 .f32) : FVec F S1x512 .f32 :=
  shapeCast S1x512 (shapeCast S512 (broadcastInDim S8x64 ![0, 1] bcast_S1x64_S8x64_0_1 (shapeCast S1x64 b shapeCasts_S64_S1x64)) shapeCasts_S8x64_S512) shapeCasts_S512_S1x512

/-- The second layer's weights. -/
def w2T (W : FVec F S64x32 .f32) : FVec F S512x256 .f32 :=
  shapeCast S512x256 (mulf
    (broadcastInDim S8x64x8x32 ![0, 1, 2, 3] bcast_S8x1x8x1_S8x64x8x32_0_1_2_3 (broadcastInDim S8x1x8x1 ![0, 2] bcast_S8x8_S8x1x8x1_0_2 eyeT))
    (broadcastInDim S8x64x8x32 ![0, 1, 2, 3] bcast_S1x64x1x32_S8x64x8x32_0_1_2_3
      (broadcastInDim S1x64x1x32 ![1, 3] bcast_S64x32_S1x64x1x32_1_3 W)))
    shapeCasts_S8x64x8x32_S512x256

/-- Its bias. -/
def b2T (b : FVec F S32 .f32) : FVec F S1x256 .f32 :=
  shapeCast S1x256 (shapeCast S256 (broadcastInDim S8x32 ![0, 1] bcast_S1x32_S8x32_0_1 (shapeCast S1x32 b shapeCasts_S32_S1x32)) shapeCasts_S8x32_S256) shapeCasts_S256_S1x256

/-- The third layer's weights. -/
def w3T (W : FVec F S32x16 .f32) : FVec F S256x128 .f32 :=
  shapeCast S256x128 (mulf
    (broadcastInDim S8x32x8x16 ![0, 1, 2, 3] bcast_S8x1x8x1_S8x32x8x16_0_1_2_3 (broadcastInDim S8x1x8x1 ![0, 2] bcast_S8x8_S8x1x8x1_0_2 eyeT))
    (broadcastInDim S8x32x8x16 ![0, 1, 2, 3] bcast_S1x32x1x16_S8x32x8x16_0_1_2_3
      (broadcastInDim S1x32x1x16 ![1, 3] bcast_S32x16_S1x32x1x16_1_3 W)))
    shapeCasts_S8x32x8x16_S256x128

/-- Its bias. -/
def b3T (b : FVec F S16 .f32) : FVec F S1x128 .f32 :=
  shapeCast S1x128 (shapeCast S128 (broadcastInDim S8x16 ![0, 1] bcast_S1x16_S8x16_0_1 (shapeCast S1x16 b shapeCasts_S16_S1x16)) shapeCasts_S8x16_S128) shapeCasts_S128_S1x128

/-- The result's weights of the product. -/
def wgT (W : FVec F S32x1 .f32) : FVec F S128x8 .f32 :=
  shapeCast S128x8 (mulf
    (broadcastInDim S8x16x8 ![0, 1, 2] bcast_S8x1x8_S8x16x8_0_1_2 (broadcastInDim S8x1x8 ![0, 2] bcast_S8x8_S8x1x8_0_2 eyeT))
    (broadcastInDim S8x16x8 ![0, 1, 2] bcast_S1x16x1_S8x16x8_0_1_2
      (broadcastInDim S1x16x1 ![1] bcast_S16_S1x16x1_1 (shapeCast S16 (extractStridedSlice S16x1 ![0, 0] W slices_S32x1_S16x1_0_0) shapeCasts_S16x1_S16))))
    shapeCasts_S8x16x8_S128x8

/-- The result's weights of the last layer. -/
def whT (W : FVec F S32x1 .f32) : FVec F S128x8 .f32 :=
  shapeCast S128x8 (mulf
    (broadcastInDim S8x16x8 ![0, 1, 2] bcast_S8x1x8_S8x16x8_0_1_2 (broadcastInDim S8x1x8 ![0, 2] bcast_S8x8_S8x1x8_0_2 eyeT))
    (broadcastInDim S8x16x8 ![0, 1, 2] bcast_S1x16x1_S8x16x8_0_1_2
      (broadcastInDim S1x16x1 ![1] bcast_S16_S1x16x1_1 (shapeCast S16 (extractStridedSlice S16x1 ![16, 0] W slices_S32x1_S16x1_16_0) shapeCasts_S16x1_S16))))
    shapeCasts_S8x16x8_S128x8

/-- The result's bias. -/
def bfT (b : FVec F S1 .f32) : FVec F S1x1 .f32 := shapeCast S1x1 b shapeCasts_S1_S1x1

variable (m : (ℓ : Loc nD τ sig) → Buf (Elt F) ℓ)

/-- What the operations before the perceptron leave alone. -/
theorem V2_arg (d : Dev nD) (r : Ref sig .tc) (h : r ∉ preOpsW ++ [main_v32]) : V2 m d (dr r) = m (d, dr r) := by
  rw [List.mem_append, not_or, List.mem_singleton] at h
  exact (Function.update_of_ne (devRef_ne_of_ne h.2) _ _).trans (after_of_writes_sub preOps _ preOps_writes (by simpa using h.1))

set_option maxRecDepth 8192 in
/-- Window by window: the first layer's weights of the user's row, -/
theorem V3_v45 (d : Dev nD) : V3 m d (dr main_v45) = w1uT (F := F) (m (d, dr main_arg2)) := by
  rw [← V2_arg m d main_arg2 (by decide)]
  unfold V3 midOps
  after_results_simp <;> rfl

set_option maxRecDepth 8192 in
/-- of the item's row, -/
theorem V3_v52 (d : Dev nD) : V3 m d (dr main_v52) = w1vT (F := F) (m (d, dr main_arg2)) := by
  rw [← V2_arg m d main_arg2 (by decide)]
  unfold V3 midOps
  after_results_simp <;> rfl

set_option maxRecDepth 8192 in
/-- its bias, -/
theorem V3_v56 (d : Dev nD) : V3 m d (dr main_v56) = b1T (F := F) (m (d, dr main_arg3)) := by
  rw [← V2_arg m d main_arg3 (by decide)]
  unfold V3 midOps
  after_results_simp <;> rfl

set_option maxRecDepth 8192 in
/-- the second layer's weights -/
theorem V3_v62 (d : Dev nD) : V3 m d (dr main_v62) = w2T (F := F) (m (d, dr main_arg4)) := by
  rw [← V2_arg m d main_arg4 (by decide)]
  unfold V3 midOps
  after_results_simp <;> rfl

set_option maxRecDepth 8192 in
/-- and bias, -/
theorem V3_v66 (d : Dev nD) : V3 m d (dr main_v66) = b2T (F := F) (m (d, dr main_arg5)) := by
  rw [← V2_arg m d main_arg5 (by decide)]
  unfold V3 midOps
  after_results_simp <;> rfl

set_option maxRecDepth 8192 in
/-- the third's -/
theorem V3_v72 (d : Dev nD) : V3 m d (dr main_v72) = w3T (F := F) (m (d, dr main_arg6)) := by
  rw [← V2_arg m d main_arg6 (by decide)]
  unfold V3 midOps
  after_results_simp <;> rfl

set_option maxRecDepth 8192 in
/-- and its bias, -/
theorem V3_v76 (d : Dev nD) : V3 m d (dr main_v76) = b3T (F := F) (m (d, dr main_arg7)) := by
  rw [← V2_arg m d main_arg7 (by decide)]
  unfold V3 midOps
  after_results_simp <;> rfl

set_option maxRecDepth 8192 in
/-- the last layer's weights of the product -/
theorem V3_v84 (d : Dev nD) : V3 m d (dr main_v84) = wgT (F := F) (m (d, dr main_arg8)) := by
  rw [← V2_arg m d main_arg8 (by decide)]
  unfold V3 midOps
  after_results_simp <;> rfl

set_option maxRecDepth 8192 in
/-- and of the third layer, -/
theorem V3_v92 (d : Dev nD) : V3 m d (dr main_v92) = whT (F := F) (m (d, dr main_arg8)) := by
  rw [← V2_arg m d main_arg8 (by decide)]
  unfold V3 midOps
  after_results_simp <;> rfl

set_option maxRecDepth 8192 in
/-- and its bias. -/
theorem V3_v93 (d : Dev nD) : V3 m d (dr main_v93) = bfT (F := F) (m (d, dr main_arg9)) := by
  rw [← V2_arg m d main_arg9 (by decide)]
  unfold V3 midOps
  after_results_simp <;> rfl

end Terms

/-! ## At an index -/

/-- The diagonal matrix. -/
theorem eyeT_apply (g h : Fin 8) : eyeT (F := Ideal) (ix2 g h) = if g = h then 1 else 0 := by
  pointwise [eyeT]
  show ((BitVec.toNat (IntOp.cmpi CmpIPredicate.eq (BitVec.ofNat 32 g.val + 0#32) (BitVec.ofNat 32 h.val)) : ℝ) : EReal) = _
  have hc : IntOp.cmpi CmpIPredicate.eq (BitVec.ofNat 32 g.val + 0#32) (BitVec.ofNat 32 h.val) = if g = h then 1#1 else 0#1 := by
    revert g h; decide
  rw [hc]
  split
  · show ((((1 : ℕ) : ℝ)) : EReal) = 1
    norm_num
  · show ((((0 : ℕ) : ℝ)) : EReal) = 0
    norm_num

/-- An element of the first layer's matrix is its block's, and zero off the diagonal, -/
theorem w1uT_apply (W : FVec Ideal S32x64 .f32) (k : Fin 128) (j : Fin 512) :
    w1uT W (ix2 k j) = eyeT (F := Ideal) (ix2 ⟨k.val / 16, by omega⟩ ⟨j.val / 64, by omega⟩) * W (ix2 ⟨k.val % 16, by omega⟩ ⟨j.val % 64, by omega⟩) := by
  pointwise [w1uT]

/-- the item's part likewise. -/
theorem w1vT_apply (W : FVec Ideal S32x64 .f32) (k : Fin 128) (j : Fin 512) :
    w1vT W (ix2 k j) = eyeT (F := Ideal) (ix2 ⟨k.val / 16, by omega⟩ ⟨j.val / 64, by omega⟩) * W (ix2 ⟨16 + k.val % 16, by omega⟩ ⟨j.val % 64, by omega⟩) := by
  pointwise [w1vT]

/-- The second layer. -/
theorem w2T_apply (W : FVec Ideal S64x32 .f32) (k : Fin 512) (j : Fin 256) :
    w2T W (ix2 k j) = eyeT (F := Ideal) (ix2 ⟨k.val / 64, by omega⟩ ⟨j.val / 32, by omega⟩) * W (ix2 ⟨k.val % 64, by omega⟩ ⟨j.val % 32, by omega⟩) := by
  pointwise [w2T]

/-- The third. -/
theorem w3T_apply (W : FVec Ideal S32x16 .f32) (k : Fin 256) (j : Fin 128) :
    w3T W (ix2 k j) = eyeT (F := Ideal) (ix2 ⟨k.val / 32, by omega⟩ ⟨j.val / 16, by omega⟩) * W (ix2 ⟨k.val % 32, by omega⟩ ⟨j.val % 16, by omega⟩) := by
  pointwise [w3T]

/-- The last layer's part of the product -/
theorem wgT_apply (W : FVec Ideal S32x1 .f32) (k : Fin 128) (j : Fin 8) :
    wgT W (ix2 k j) = eyeT (F := Ideal) (ix2 ⟨k.val / 16, by omega⟩ j) * W (ix2 ⟨k.val % 16, by omega⟩ 0) := by
  pointwise [wgT]

/-- and of the third layer. -/
theorem whT_apply (W : FVec Ideal S32x1 .f32) (k : Fin 128) (j : Fin 8) :
    whT W (ix2 k j) = eyeT (F := Ideal) (ix2 ⟨k.val / 16, by omega⟩ j) * W (ix2 ⟨16 + k.val % 16, by omega⟩ 0) := by
  pointwise [whT]

/-- The first layer's bias repeats, -/
theorem b1T_apply (b : FVec Ideal S64 .f32) (z : Fin 1) (j : Fin 512) :
    b1T b (ix2 z j) = b (ix1 ⟨j.val % 64, by omega⟩) := by
  pointwise [b1T]

/-- the second's -/
theorem b2T_apply (b : FVec Ideal S32 .f32) (z : Fin 1) (j : Fin 256) :
    b2T b (ix2 z j) = b (ix1 ⟨j.val % 32, by omega⟩) := by
  pointwise [b2T]

/-- and the third's. -/
theorem b3T_apply (b : FVec Ideal S16 .f32) (z : Fin 1) (j : Fin 128) :
    b3T b (ix2 z j) = b (ix1 ⟨j.val % 16, by omega⟩) := by
  pointwise [b3T]

/-- The last bias is one number. -/
theorem bfT_apply (b : FVec Ideal S1 .f32) : bfT b (ix2 0 0) = b (ix1 0) := by
  pointwise [bfT]

end Cert.Proof.Host

end
-- ==== Proof.Spec.lean ====
/- What both programs compute of one sample, over the extended reals: `u` and `v` are the user's row of the table and the
   item's; three layers over the two rows joined, and the result over the product of the rows and the last layer joined.
   A sum over joined arrays is written as the sum over the first and the sum over the second. -/
module

public import Idealize.ShloMosaic.PureOps.Ideal
public import Idealize.ShloMosaic.Lib.Pointwise

@[expose] public section

noncomputable section

namespace Cert.Proof.Spec

open Idealize.ShloMosaic

/-- The first layer, at output `j`. -/
def s1 (u v : Fin 16 → EReal) (W1 : FVec Ideal ⟨2, ![32, 64]⟩ .f32) (b1 : FVec Ideal ⟨1, ![64]⟩ .f32) (j : Fin 64) : EReal :=
  max (((∑ k : Fin 16, u k * W1 (ix2 ⟨k.val, by omega⟩ j)) + (∑ k : Fin 16, v k * W1 (ix2 ⟨16 + k.val, by omega⟩ j))) + b1 (ix1 j)) 0

/-- The second. -/
def s2 (h : Fin 64 → EReal) (W2 : FVec Ideal ⟨2, ![64, 32]⟩ .f32) (b2 : FVec Ideal ⟨1, ![32]⟩ .f32) (j : Fin 32) : EReal :=
  max ((∑ k : Fin 64, h k * W2 (ix2 k j)) + b2 (ix1 j)) 0

/-- The third. -/
def s3 (h : Fin 32 → EReal) (W3 : FVec Ideal ⟨2, ![32, 16]⟩ .f32) (b3 : FVec Ideal ⟨1, ![16]⟩ .f32) (j : Fin 16) : EReal :=
  max ((∑ k : Fin 32, h k * W3 (ix2 k j)) + b3 (ix1 j)) 0

/-- The result. -/
def sOut (u v : Fin 16 → EReal) (h : Fin 16 → EReal) (Wf : FVec Ideal ⟨2, ![32, 1]⟩ .f32) (bf : FVec Ideal ⟨1, ![1]⟩ .f32) : EReal :=
  ((∑ k : Fin 16, u k * v k * Wf (ix2 ⟨k.val, by omega⟩ 0)) + (∑ k : Fin 16, h k * Wf (ix2 ⟨16 + k.val, by omega⟩ 0))) + bf (ix1 0)

/-- The sample's result, of its two rows and the weights. -/
def sample (u v : Fin 16 → EReal) (W1 : FVec Ideal ⟨2, ![32, 64]⟩ .f32) (b1 : FVec Ideal ⟨1, ![64]⟩ .f32)
    (W2 : FVec Ideal ⟨2, ![64, 32]⟩ .f32) (b2 : FVec Ideal ⟨1, ![32]⟩ .f32) (W3 : FVec Ideal ⟨2, ![32, 16]⟩ .f32)
    (b3 : FVec Ideal ⟨1, ![16]⟩ .f32) (Wf : FVec Ideal ⟨2, ![32, 1]⟩ .f32) (bf : FVec Ideal ⟨1, ![1]⟩ .f32) : EReal :=
  sOut u v (s3 (s2 (s1 u v W1 b1) W2 b2) W3 b3) Wf bf

end Cert.Proof.Spec

end
-- ==== Proof.MlpValue.lean ====
/- The dense layers' kernel over the extended reals, on the weights laid on their diagonals: eight samples lie side by side in
   a row, and each one's columns meet only its own block of each matrix. -/
module

public import proofs.«01_k».proof.Proof.Weights
public import proofs.«01_k».proof.Proof.Spec

@[expose] public section

noncomputable section

namespace Cert.Proof.Host

open Cert.KernelIdeal Cert.KernelIdeal.Gen
open Cert.KernelIdeal.Facts
open Cert.Proof.Tc

open Idealize.ShloMosaic

/-! ## A row against one column of a matrix of blocks -/

/-- A row's product with a column of the diagonal of blocks is the product of the block's own part of the row. -/
theorem sum_block {N p : ℕ} (hN : N = 8 * p) (hp : 0 < p) (a : Fin N → EReal) (w : Fin p → EReal) (g : Fin 8) :
    ∑ k : Fin N, a k * (eyeT (F := Ideal) (ix2 (⟨k.val / p, Nat.div_lt_of_lt_mul (by have := k.isLt; rw [Nat.mul_comm]; omega)⟩ : Fin 8) g)
        * w ⟨k.val % p, Nat.mod_lt _ hp⟩)
      = ∑ k : Fin p, a ⟨p * g.val + k.val, by
          have h1 := k.isLt
          have h2 : p * g.val ≤ p * 7 := Nat.mul_le_mul_left p (by omega)
          omega⟩ * w k := by
  subst hN
  rw [← Equiv.sum_comp (finProdFinEquiv (m := 8) (n := p)), Fintype.sum_prod_type, Finset.sum_eq_single g]
  · refine Finset.sum_congr rfl fun k _ => ?_
    have hv : (finProdFinEquiv (g, k)).val = k.val + p * g.val := rfl
    have hd : (k.val + p * g.val) / p = g.val := by rw [Nat.add_mul_div_left _ _ hp, Nat.div_eq_of_lt k.isLt, Nat.zero_add]
    have hm : (k.val + p * g.val) % p = k.val := by rw [Nat.add_mul_mod_self_left, Nat.mod_eq_of_lt k.isLt]
    rw [show (⟨(finProdFinEquiv (g, k)).val / p, _⟩ : Fin 8) = g from Fin.ext ((congrArg (· / p) hv).trans hd),
      show (⟨(finProdFinEquiv (g, k)).val % p, _⟩ : Fin p) = k from Fin.ext ((congrArg (· % p) hv).trans hm),
      show finProdFinEquiv (g, k) = ⟨p * g.val + k.val, _⟩ from Fin.ext (hv.trans (Nat.add_comm _ _)),
      eyeT_apply, if_pos rfl, one_mul]
  · intro h _ hne
    refine Finset.sum_eq_zero fun k _ => ?_
    have hv : (finProdFinEquiv (h, k)).val = k.val + p * h.val := rfl
    have hd : (k.val + p * h.val) / p = h.val := by rw [Nat.add_mul_div_left _ _ hp, Nat.div_eq_of_lt k.isLt, Nat.zero_add]
    rw [show (⟨(finProdFinEquiv (h, k)).val / p, _⟩ : Fin 8) = h from Fin.ext ((congrArg (· / p) hv).trans hd),
      eyeT_apply, if_neg hne, zero_mul, mul_zero]
  · intro h; exact absurd (Finset.mem_univ _) h

/-! ## The layers' terms -/

section Terms

variable {F : FTy → Type} [FloatOps F]

/-- The first layer. -/
def l1T (x0 x1 : Vec F S2048x128 .f32) (x2 x3 : Vec F S128x512 .f32) (x4 : Vec F S1x512 .f32) : FVec F S2048x512 .f32 :=
  maximumf (addf (addf
    (matmul dot_S2048x128_S128x512_S2048x512_1_0_0_1_n_n none (k1_pay2 x0) (shapeCast S128x512 x2 shapeCasts_S128x512_S128x512) (constant S2048x512 .f32 0x00000000#32))
    (matmul dot_S2048x128_S128x512_S2048x512_1_0_0_1_n_n none (k1_pay3 x1) (shapeCast S128x512 x3 shapeCasts_S128x512_S128x512) (constant S2048x512 .f32 0x00000000#32)))
    (broadcastTo S2048x512 (shapeCast S1x512 x4 shapeCasts_S1x512_S1x512) broadcasts_S1x512_S2048x512))
    (broadcast S2048x512 (Scalar.ofBits .f32 0x00000000#32))

/-- The second. -/
def l2T (h : FVec F S2048x512 .f32) (x5 : Vec F S512x256 .f32) (x6 : Vec F S1x256 .f32) : FVec F S2048x256 .f32 :=
  maximumf (addf
    (matmul dot_S2048x512_S512x256_S2048x256_1_0_0_1_n_n none h (shapeCast S512x256 x5 shapeCasts_S512x256_S512x256) (constant S2048x256 .f32 0x00000000#32))
    (broadcastTo S2048x256 (shapeCast S1x256 x6 shapeCasts_S1x256_S1x256) broadcasts_S1x256_S2048x256))
    (broadcast S2048x256 (Scalar.ofBits .f32 0x00000000#32))

/-- The third, before its maximum with zero. -/
def l3T (h : FVec F S2048x256 .f32) (x7 : Vec F S256x128 .f32) (x8 : Vec F S1x128 .f32) : FVec F S2048x128 .f32 :=
  addf
    (matmul dot_S2048x256_S256x128_S2048x128_1_0_0_1_n_n none h (shapeCast S256x128 x7 shapeCasts_S256x128_S256x128) (constant S2048x128 .f32 0x00000000#32))
    (broadcastTo S2048x128 (shapeCast S1x128 x8 shapeCasts_S1x128_S1x128) broadcasts_S1x128_S2048x128)

/-- The kernel's term is the layers' in turn. -/
theorem mlp_eq (x0 x1 : Vec F S2048x128 .f32) (x2 x3 : Vec F S128x512 .f32) (x4 : Vec F S1x512 .f32) (x5 : Vec F S512x256 .f32)
    (x6 : Vec F S1x256 .f32) (x7 : Vec F S256x128 .f32) (x8 : Vec F S1x128 .f32) (x9 x10 : Vec F S128x8 .f32) (x11 : Vec F S1x1 .f32) :
    mlp x0 x1 x2 x3 x4 x5 x6 x7 x8 x9 x10 x11
      = k1_pay1 (k1_pay2 x0) (k1_pay3 x1) (l3T (l2T (l1T x0 x1 x2 x3 x4) x5 x6) x7 x8) k1_pay5 x9 x10 x11 := rfl

end Terms

/-! ## Read at an index -/

/-- The first layer at an index, over any operands. -/
theorem l1T_apply (x0 x1 : Vec Ideal S2048x128 .f32) (x2 x3 : Vec Ideal S128x512 .f32) (x4 : Vec Ideal S1x512 .f32) (r : Fin 2048) (j : Fin 512) :
    l1T x0 x1 x2 x3 x4 (ix2 r j)
      = max (((∑ k : Fin 128, x0 (ix2 r k) * x2 (ix2 k j)) + (∑ k : Fin 128, x1 (ix2 r k) * x3 (ix2 k j))) + x4 (ix2 0 j)) 0 := by
  pointwise [l1T, k1_pay2, k1_pay3]

/-- The second. -/
theorem l2T_apply (h : FVec Ideal S2048x512 .f32) (x5 : Vec Ideal S512x256 .f32) (x6 : Vec Ideal S1x256 .f32) (r : Fin 2048) (j : Fin 256) :
    l2T h x5 x6 (ix2 r j) = max ((∑ k : Fin 512, h (ix2 r k) * x5 (ix2 k j)) + x6 (ix2 0 j)) 0 := by
  pointwise [l2T]

/-- The third. -/
theorem l3T_apply (h : FVec Ideal S2048x256 .f32) (x7 : Vec Ideal S256x128 .f32) (x8 : Vec Ideal S1x128 .f32) (r : Fin 2048) (j : Fin 128) :
    l3T h x7 x8 (ix2 r j) = (∑ k : Fin 256, h (ix2 r k) * x7 (ix2 k j)) + x8 (ix2 0 j) := by
  pointwise [l3T]

/-- The result. -/
theorem out_apply (x0 x1 : Vec Ideal S2048x128 .f32) (h : FVec Ideal S2048x128 .f32) (x9 x10 : Vec Ideal S128x8 .f32) (x11 : Vec Ideal S1x1 .f32)
    (r : Fin 2048) (g : Fin 8) :
    k1_pay1 (k1_pay2 x0) (k1_pay3 x1) h k1_pay5 x9 x10 x11 (ix2 r g)
      = ((∑ k : Fin 128, x0 (ix2 r k) * x1 (ix2 r k) * x9 (ix2 k g)) + (∑ k : Fin 128, max (h (ix2 r k)) 0 * x10 (ix2 k g))) + x11 (ix2 0 0) := by
  pointwise [k1_pay1, k1_pay2, k1_pay3, k1_pay5]

/-! ## One sample's columns -/

variable (x0 x1 : Vec Ideal S2048x128 .f32) (W1 : FVec Ideal S32x64 .f32) (b1 : FVec Ideal S64 .f32) (W2 : FVec Ideal S64x32 .f32)
  (b2 : FVec Ideal S32 .f32) (W3 : FVec Ideal S32x16 .f32) (b3 : FVec Ideal S16 .f32) (Wf : FVec Ideal S32x1 .f32) (bf : FVec Ideal S1 .f32)

/-- The sixteen columns of the `g`-th sample of a row. -/
def cut (x : Vec Ideal S2048x128 .f32) (r : Fin 2048) (g : Fin 8) : Fin 16 → EReal := fun e => x (ix2 r ⟨16 * g.val + e.val, by omega⟩)

/-- The first layer at the sample's columns. -/
theorem l1_sample (r : Fin 2048) (g : Fin 8) (j : Fin 64) :
    l1T x0 x1 (w1uT W1) (w1vT W1) (b1T b1) (ix2 r ⟨64 * g.val + j.val, by omega⟩) = Spec.s1 (cut x0 r g) (cut x1 r g) W1 b1 j := by
  have hg : (⟨(64 * g.val + j.val) / 64, by omega⟩ : Fin 8) = g := Fin.ext (show (64 * g.val + j.val) / 64 = g.val by omega)
  have hj : (⟨(64 * g.val + j.val) % 64, by omega⟩ : Fin 64) = j := Fin.ext (show (64 * g.val + j.val) % 64 = j.val by omega)
  have hu := sum_block (N := 128) (p := 16) rfl (by omega) (fun k => x0 (ix2 r k)) (fun k => W1 (ix2 ⟨k.val, by omega⟩ j)) g
  have hv := sum_block (N := 128) (p := 16) rfl (by omega) (fun k => x1 (ix2 r k)) (fun k => W1 (ix2 ⟨16 + k.val, by omega⟩ j)) g
  rw [l1T_apply]
  simp only [w1uT_apply, w1vT_apply, b1T_apply, hg, hj]
  rw [hu, hv]
  rfl

/-- The second. -/
theorem l2_sample (H : FVec Ideal S2048x512 .f32) (r : Fin 2048) (g : Fin 8) (j : Fin 32) :
    l2T H (w2T W2) (b2T b2) (ix2 r ⟨32 * g.val + j.val, by omega⟩)
      = Spec.s2 (fun k => H (ix2 r ⟨64 * g.val + k.val, by omega⟩)) W2 b2 j := by
  have hg : (⟨(32 * g.val + j.val) / 32, by omega⟩ : Fin 8) = g := Fin.ext (show (32 * g.val + j.val) / 32 = g.val by omega)
  have hj : (⟨(32 * g.val + j.val) % 32, by omega⟩ : Fin 32) = j := Fin.ext (show (32 * g.val + j.val) % 32 = j.val by omega)
  have hu := sum_block (N := 512) (p := 64) rfl (by omega) (fun k => H (ix2 r k)) (fun k => W2 (ix2 k j)) g
  rw [l2T_apply]
  simp only [w2T_apply, b2T_apply, hg, hj]
  rw [hu]
  rfl

/-- The third. -/
theorem l3_sample (H : FVec Ideal S2048x256 .f32) (r : Fin 2048) (g : Fin 8) (j : Fin 16) :
    max (l3T H (w3T W3) (b3T b3) (ix2 r ⟨16 * g.val + j.val, by omega⟩)) 0
      = Spec.s3 (fun k => H (ix2 r ⟨32 * g.val + k.val, by omega⟩)) W3 b3 j := by
  have hg : (⟨(16 * g.val + j.val) / 16, by omega⟩ : Fin 8) = g := Fin.ext (show (16 * g.val + j.val) / 16 = g.val by omega)
  have hj : (⟨(16 * g.val + j.val) % 16, by omega⟩ : Fin 16) = j := Fin.ext (show (16 * g.val + j.val) % 16 = j.val by omega)
  have hu := sum_block (N := 256) (p := 32) rfl (by omega) (fun k => H (ix2 r k)) (fun k => W3 (ix2 k j)) g
  rw [l3T_apply]
  simp only [w3T_apply, b3T_apply, hg, hj]
  rw [hu]
  rfl

/-- The kernel's element of a sample is the sample's result. -/
theorem mlp_sample (r : Fin 2048) (g : Fin 8) :
    mlp x0 x1 (w1uT W1) (w1vT W1) (b1T b1) (w2T W2) (b2T b2) (w3T W3) (b3T b3) (wgT Wf) (whT Wf) (bfT bf) (ix2 r g)
      = Spec.sample (cut x0 r g) (cut x1 r g) W1 b1 W2 b2 W3 b3 Wf bf := by
  rw [mlp_eq, out_apply]
  simp only [wgT_apply, whT_apply, bfT_apply]
  rw [sum_block (N := 128) (p := 16) rfl (by omega) (fun k => x0 (ix2 r k) * x1 (ix2 r k)) (fun k => Wf (ix2 ⟨k.val, by omega⟩ 0)) g,
    sum_block (N := 128) (p := 16) rfl (by omega)
      (fun k => max (l3T (l2T (l1T x0 x1 (w1uT W1) (w1vT W1) (b1T b1)) (w2T W2) (b2T b2)) (w3T W3) (b3T b3) (ix2 r k)) 0)
      (fun k => Wf (ix2 ⟨16 + k.val, by omega⟩ 0)) g]
  simp only [l3_sample, l2_sample, l1_sample]
  rfl

end Cert.Proof.Host

end
-- ==== Proof.KernelValue.lean ====
/- The kernel's result over the extended reals: the gathered rows, the blocks the dense layers' kernel is given, and the
   result sample by sample. -/
module

public import proofs.«01_k».proof.Proof.MlpValue
public import proofs.«01_k».proof.Proof.Positions

@[expose] public section

noncomputable section

namespace Cert.Proof.Host

open Cert.KernelIdeal Cert.KernelIdeal.Gen
open Cert.KernelIdeal.Facts
open Cert.Proof.Sc Cert.Proof.Tc

open Idealize.ShloMosaic
open Idealize.ShloMosaic.StableHlo
open Idealize.ShloMosaic.TcCoe

/-! ## The gathered rows -/

section Gathered

variable {F : FTy → Type} [FloatOps F] (m : (ℓ : Loc nD τ sig) → Buf (Elt F) ℓ)

/-- The weights' operations leave the gathered array. -/
theorem V3_v32 (d : Dev nD) : V3 m d (dr main_v32) = outF (Iw m) (Tb m) d :=
  (after_of_writes_sub midOps (V2 m d) midOps_writes (by decide)).trans (Function.update_self _ _ _)

/-- Element `(r, l)` of the gathered array is component `l % 16` of the row lookup `8 r + l / 16` reads. -/
theorem gathered (d : Dev nD) (X : IVec S16384x2 32) (T : FVec F S2000000x16 .f32) (h0 : m (d, dr main_arg0) = X)
    (h1 : m (d, dr main_arg1) = T) (hX : Small X) (r : Fin 4096) (l : Fin 128) :
    (V3 m d (dr main_v32) : FVec F S4096x128 .f32) (ix2 r l)
      = T (ix2 ⟨rowN X ⟨8 * r.val + l.val / 16, by omega⟩, rowN_lt X hX _⟩ ⟨l.val % 16, Nat.mod_lt _ (by omega)⟩) := by
  have hp := posN_lt _ _ (rowN_lt X hX ⟨8 * r.val + l.val / 16, by omega⟩) (Nat.mod_lt l.val (show 0 < 16 by omega))
  have hx : tIdx (BitVec.toNat (posT X (ix2 r l) : BitVec 32))
      = ix1 ⟨posN (rowN X ⟨8 * r.val + l.val / 16, by omega⟩) (l.val % 16), hp⟩ := by
    funext a
    match a with
    | ⟨0, _⟩ =>
      apply Fin.ext
      show BitVec.toNat (posT X (ix2 r l) : BitVec 32) % 32000000 = _
      rw [posT_toNat X hX, Nat.mod_eq_of_lt hp]
      rfl
  have hr := flatT_apply T ⟨rowN X ⟨8 * r.val + l.val / 16, by omega⟩, rowN_lt X hX _⟩ ⟨l.val % 16, Nat.mod_lt _ (by omega)⟩
  rw [V3_v32]
  unfold outF
  rw [Iw_eq, Tb_eq, h0, h1, hx]
  exact hr

end Gathered

/-! ## The kernel's blocks -/

section Blocks

variable {F : FTy → Type} [FloatOps F] (V : (c : Dev nD) → (b : Ref sig .tc) → Buf (Elt F) ((c : Thread nD τ).loc b))

/-- The first block of the gathered array is its first half, -/
theorem stg_0 (c : Dev nD) (r : Fin 2048) (l : Fin 128) :
    (stg V c 0 : FVec F S2048x128 .f32) (ix2 r l) = (V c main_v32 : FVec F S4096x128 .f32) (ix2 ⟨r.val, by omega⟩ l) := by
  have he : ((win1_0.blk t1_0).view.emb (ix2 r l : S2048x128.Idx) : S4096x128.Idx) = ix2 ⟨r.val, by omega⟩ l := by
    funext k
    apply Fin.ext
    fin_cases k
    · show 0 * 2048 + 1 * r.val = r.val
      omega
    · show 0 * 128 + 1 * l.val = l.val
      omega
  exact congrArg (V c main_v32 : FVec F S4096x128 .f32) he

/-- and the second its second. -/
theorem stg_1 (c : Dev nD) (r : Fin 2048) (l : Fin 128) :
    (stg V c 1 : FVec F S2048x128 .f32) (ix2 r l) = (V c main_v32 : FVec F S4096x128 .f32) (ix2 ⟨2048 + r.val, by omega⟩ l) := by
  have he : ((win1_1.blk t1_0).view.emb (ix2 r l : S2048x128.Idx) : S4096x128.Idx) = ix2 ⟨2048 + r.val, by omega⟩ l := by
    funext k
    apply Fin.ext
    fin_cases k
    · show 1 * 2048 + 1 * r.val = 2048 + r.val
      omega
    · show 0 * 128 + 1 * l.val = l.val
      omega
  exact congrArg (V c main_v32 : FVec F S4096x128 .f32) he

/-- An offset of zero and a step of one. -/
theorem zero_off (b y : ℕ) : 0 * b + 1 * y = y := by omega

/-- An array read at each index's own place is the array. -/
theorem read_own {S : Shape} {α : Type} (f : S.Idx → S.Idx) (h : ∀ y k, (f y k).val = (y k).val) (x : S.Idx → α) :
    (fun y => x (f y)) = x := by
  funext y
  exact congrArg x (funext fun k => Fin.ext (h y k))

/-- Window 2's block is its whole array. -/
theorem stg_2 (c : Dev nD) : (stg V c 2 : FVec F S128x512 .f32) = V c main_v45 :=
  read_own (win1_2.blk t1_0).view.emb (fun y k => by fin_cases k <;> exact zero_off _ _) (V c main_v45 : FVec F S128x512 .f32)

/-- Window 3's block is its whole array. -/
theorem stg_3 (c : Dev nD) : (stg V c 3 : FVec F S128x512 .f32) = V c main_v52 :=
  read_own (win1_3.blk t1_0).view.emb (fun y k => by fin_cases k <;> exact zero_off _ _) (V c main_v52 : FVec F S128x512 .f32)

/-- Window 4's block is its whole array. -/
theorem stg_4 (c : Dev nD) : (stg V c 4 : FVec F S1x512 .f32) = V c main_v56 :=
  read_own (win1_4.blk t1_0).view.emb (fun y k => by fin_cases k <;> exact zero_off _ _) (V c main_v56 : FVec F S1x512 .f32)

/-- Window 5's block is its whole array. -/
theorem stg_5 (c : Dev nD) : (stg V c 5 : FVec F S512x256 .f32) = V c main_v62 :=
  read_own (win1_5.blk t1_0).view.emb (fun y k => by fin_cases k <;> exact zero_off _ _) (V c main_v62 : FVec F S512x256 .f32)

/-- Window 6's block is its whole array. -/
theorem stg_6 (c : Dev nD) : (stg V c 6 : FVec F S1x256 .f32) = V c main_v66 :=
  read_own (win1_6.blk t1_0).view.emb (fun y k => by fin_cases k <;> exact zero_off _ _) (V c main_v66 : FVec F S1x256 .f32)

/-- Window 7's block is its whole array. -/
theorem stg_7 (c : Dev nD) : (stg V c 7 : FVec F S256x128 .f32) = V c main_v72 :=
  read_own (win1_7.blk t1_0).view.emb (fun y k => by fin_cases k <;> exact zero_off _ _) (V c main_v72 : FVec F S256x128 .f32)

/-- Window 8's block is its whole array. -/
theorem stg_8 (c : Dev nD) : (stg V c 8 : FVec F S1x128 .f32) = V c main_v76 :=
  read_own (win1_8.blk t1_0).view.emb (fun y k => by fin_cases k <;> exact zero_off _ _) (V c main_v76 : FVec F S1x128 .f32)

/-- Window 9's block is its whole array. -/
theorem stg_9 (c : Dev nD) : (stg V c 9 : FVec F S128x8 .f32) = V c main_v84 :=
  read_own (win1_9.blk t1_0).view.emb (fun y k => by fin_cases k <;> exact zero_off _ _) (V c main_v84 : FVec F S128x8 .f32)

/-- Window 10's block is its whole array. -/
theorem stg_10 (c : Dev nD) : (stg V c 10 : FVec F S128x8 .f32) = V c main_v92 :=
  read_own (win1_10.blk t1_0).view.emb (fun y k => by fin_cases k <;> exact zero_off _ _) (V c main_v92 : FVec F S128x8 .f32)

/-- Window 11's block is its whole array. -/
theorem stg_11 (c : Dev nD) : (stg V c 11 : FVec F S1x1 .f32) = V c main_v93 :=
  read_own (win1_11.blk t1_0).view.emb (fun y k => by fin_cases k <;> exact zero_off _ _) (V c main_v93 : FVec F S1x1 .f32)

end Blocks

/-! ## The result -/

variable (m : (ℓ : Loc nD τ sig) → Buf (Elt Ideal) ℓ)

/-- The result is the dense layers' kernel's, row after row. -/
theorem V5_v95 (d : Dev nD) :
    (V5 m d (dr main_v95) : FVec Ideal S16384 .f32) = shapeCast S16384 (mlpOut (B3 m) d) shapeCasts_S2048x8_S16384 := by
  rw [← B4_out m d]
  unfold V5 postOps
  after_results_simp <;> rfl

/-- A number's row and column in the result. -/
theorem cast_apply (y : FVec Ideal S2048x8 .f32) (b : Fin 16384) :
    shapeCast S16384 y shapeCasts_S2048x8_S16384 (ix1 b) = y (ix2 ⟨b.val / 8, by omega⟩ ⟨b.val % 8, Nat.mod_lt _ (by omega)⟩) := by
  pointwise

/-- The kernel's result, sample by sample. -/
theorem value_apply (d : Dev nD)
    (X : IVec S16384x2 32) (T : FVec Ideal S2000000x16 .f32) (W1 : FVec Ideal S32x64 .f32) (b1 : FVec Ideal S64 .f32)
    (W2 : FVec Ideal S64x32 .f32) (b2 : FVec Ideal S32 .f32) (W3 : FVec Ideal S32x16 .f32) (b3 : FVec Ideal S16 .f32)
    (Wf : FVec Ideal S32x1 .f32) (bf : FVec Ideal S1 .f32)
    (h0 : m (d, dr main_arg0) = X) (h1 : m (d, dr main_arg1) = T) (h2 : m (d, dr main_arg2) = W1) (h3 : m (d, dr main_arg3) = b1)
    (h4 : m (d, dr main_arg4) = W2) (h5 : m (d, dr main_arg5) = b2) (h6 : m (d, dr main_arg6) = W3) (h7 : m (d, dr main_arg7) = b3)
    (h8 : m (d, dr main_arg8) = Wf) (h9 : m (d, dr main_arg9) = bf) (hX : Small X) (b : Fin 16384) :
    (V5 m d (dr main_v95) : FVec Ideal S16384 .f32) (ix1 b)
      = Spec.sample (fun e => T (ix2 ⟨BitVec.toNat (X (ix2 b 0) : BitVec 32), by have := hX (ix2 b 0); omega⟩ e))
          (fun e => T (ix2 ⟨BitVec.toNat (X (ix2 b 1) : BitVec 32) + 1000000, by have := hX (ix2 b 1); omega⟩ e))
          W1 b1 W2 b2 W3 b3 Wf bf := by
  have e2 : stg (B3 m) d 2 = w1uT W1 := by rw [← h2]; exact (stg_2 (B3 m) d).trans (V3_v45 m d)
  have e3 : stg (B3 m) d 3 = w1vT W1 := by rw [← h2]; exact (stg_3 (B3 m) d).trans (V3_v52 m d)
  have e4 : stg (B3 m) d 4 = b1T b1 := by rw [← h3]; exact (stg_4 (B3 m) d).trans (V3_v56 m d)
  have e5 : stg (B3 m) d 5 = w2T W2 := by rw [← h4]; exact (stg_5 (B3 m) d).trans (V3_v62 m d)
  have e6 : stg (B3 m) d 6 = b2T b2 := by rw [← h5]; exact (stg_6 (B3 m) d).trans (V3_v66 m d)
  have e7 : stg (B3 m) d 7 = w3T W3 := by rw [← h6]; exact (stg_7 (B3 m) d).trans (V3_v72 m d)
  have e8 : stg (B3 m) d 8 = b3T b3 := by rw [← h7]; exact (stg_8 (B3 m) d).trans (V3_v76 m d)
  have e9 : stg (B3 m) d 9 = wgT Wf := by rw [← h8]; exact (stg_9 (B3 m) d).trans (V3_v84 m d)
  have e10 : stg (B3 m) d 10 = whT Wf := by rw [← h8]; exact (stg_10 (B3 m) d).trans (V3_v92 m d)
  have e11 : stg (B3 m) d 11 = bfT bf := by rw [← h9]; exact (stg_11 (B3 m) d).trans (V3_v93 m d)
  have hu : cut (stg (B3 m) d 0) ⟨b.val / 8, by omega⟩ ⟨b.val % 8, Nat.mod_lt _ (by omega)⟩
      = fun e => T (ix2 ⟨BitVec.toNat (X (ix2 b 0) : BitVec 32), by have := hX (ix2 b 0); omega⟩ e) := by
    funext e
    refine (stg_0 (B3 m) d _ _).trans ((gathered m d X T h0 h1 hX _ _).trans ?_)
    have hn : (⟨8 * (b.val / 8) + (16 * (b.val % 8) + e.val) / 16, by omega⟩ : Fin 32768) = ⟨b.val, by omega⟩ := Fin.ext (by simp only; omega)
    have hr : rowN X ⟨8 * (b.val / 8) + (16 * (b.val % 8) + e.val) / 16, by omega⟩ = BitVec.toNat (X (ix2 b 0) : BitVec 32) := by
      rw [hn]; unfold rowN
      have ha : (⟨b.val % 16384, Nat.mod_lt _ (by omega)⟩ : Fin 16384) = b := Fin.ext (Nat.mod_eq_of_lt b.isLt)
      have hb : (⟨b.val / 16384, by omega⟩ : Fin 2) = 0 := Fin.ext (Nat.div_eq_of_lt b.isLt)
      simp only [ha, hb, Nat.div_eq_of_lt b.isLt, Nat.zero_mul, Nat.add_zero]
      rfl
    have he : (16 * (b.val % 8) + e.val) % 16 = e.val := by omega
    refine congrArg T ?_
    exact congrArg₂ ix2 (Fin.ext hr) (Fin.ext he)
  have hv : cut (stg (B3 m) d 1) ⟨b.val / 8, by omega⟩ ⟨b.val % 8, Nat.mod_lt _ (by omega)⟩
      = fun e => T (ix2 ⟨BitVec.toNat (X (ix2 b 1) : BitVec 32) + 1000000, by have := hX (ix2 b 1); omega⟩ e) := by
    funext e
    refine (stg_1 (B3 m) d _ _).trans ((gathered m d X T h0 h1 hX _ _).trans ?_)
    have hn : (⟨8 * (2048 + b.val / 8) + (16 * (b.val % 8) + e.val) / 16, by omega⟩ : Fin 32768) = ⟨16384 + b.val, by omega⟩ :=
      Fin.ext (by simp only; omega)
    have hr : rowN X ⟨8 * (2048 + b.val / 8) + (16 * (b.val % 8) + e.val) / 16, by omega⟩ = BitVec.toNat (X (ix2 b 1) : BitVec 32) + 1000000 := by
      rw [hn]; unfold rowN
      have ha : (⟨(16384 + b.val) % 16384, Nat.mod_lt _ (by omega)⟩ : Fin 16384) = b := Fin.ext (by simp only; omega)
      have hq : (16384 + b.val) / 16384 = 1 := by omega
      have hb : (⟨(16384 + b.val) / 16384, by omega⟩ : Fin 2) = 1 := Fin.ext hq
      simp only [ha, hb, hq, Nat.one_mul]
      rfl
    have he : (16 * (b.val % 8) + e.val) % 16 = e.val := by omega
    refine congrArg T ?_
    exact congrArg₂ ix2 (Fin.ext hr) (Fin.ext he)
  rw [V5_v95, cast_apply]
  unfold mlpOut
  rw [e2, e3, e4, e5, e6, e7, e8, e9, e10, e11, mlp_sample, hu, hv]

end Cert.Proof.Host

end
-- ==== Proof.RefValue.lean ====
/- What the reference computes, as terms of its arguments. -/
module

public import proofs.«01_k».proof.Proof.Gen.ReferenceIdeal.Run
public import proofs.«01_k».proof.Proof.Spec
public import Idealize.ShloMosaic.Lib.Pointwise
public import Idealize.ShloMosaic.Lib.ReduceAll
public import Idealize.ShloMosaic.Lib.Affine

@[expose] public section

noncomputable section

namespace Cert.Proof.Ref

open Cert.ReferenceIdeal
open Cert.ReferenceIdeal.Facts Cert.ReferenceIdeal.Facts₀

open Idealize.ShloMosaic
open Idealize.ShloMosaic.StableHlo

section Terms

variable {F : FTy → Type} [FloatOps F]

/-- The table's rows. -/
def idxR (X : IVec S16384x2 32) : IVec S16384x2 32 :=
  addi X (broadcastInDim S16384x2 ![0, 1] bcast_S1x2_S16384x2_0_1
    (broadcastInDim S1x2 ![1] bcast_S2_S1x2_1 (fun i => lit0 (S2.rowMajor i))))

/-- The same, a negative one counted from the table's end. -/
def fixR (X : IVec S16384x2 32) : IVec S16384x2 32 :=
  select (cmpi .slt (idxR X) (broadcastInDim S16384x2 ![] bcast_S_S16384x2 (constantI S_ 32 0#32)))
    (addi (idxR X) (broadcastInDim S16384x2 ![] bcast_S_S16384x2 (constantI S_ 32 2000000#32))) (idxR X)

/-- The same as a list of one-coordinate positions. -/
def startR (X : IVec S16384x2 32) : IVec S16384x2x1 32 :=
  broadcastInDim S16384x2x1 ![0, 1] bcast_S16384x2_S16384x2x1_0_1 (fixR X)

/-- Whether each coordinate lies in the table. -/
def inR (X : IVec S16384x2 32) : IVec S16384x2x1 1 :=
  andi (cmpi .sge (startR X) (broadcastInDim S16384x2x1 ![] bcast_S_S16384x2x1 (constantI S_ 32 0#32)))
    (cmpi .sle (startR X) (broadcastInDim S16384x2x1 ![0, 1, 2] bcast_S1x1x1_S16384x2x1_0_1_2
      (broadcastInDim S1x1x1 ![2] bcast_S1_S1x1x1_2 (constantI S1 32 1999999#32))))

/-- Whether each position does. -/
def okR (X : IVec S16384x2 32) : IVec S16384x2 1 :=
  Host.reduce IntOp.andi (inR X) (constantI S_ 1 1#1) reducesTo_S16384x2x1_S16384x2_d2 h_S_

/-- The rows looked up. -/
def embR (X : IVec S16384x2 32) (T : FVec F S2000000x16 .f32) : FVec F S16384x2x16 .f32 :=
  select (broadcastInDim S16384x2x16 ![0, 1] bcast_S16384x2_S16384x2x16_0_1 (okR X))
    (Host.gather gather_S2000000x16_S16384x2x1_S16384x2x16_2_0_n_n_0_2_116 T (startR X))
    (broadcastInDim S16384x2x16 ![] bcast_S_S16384x2x16 (constant S_ .f32 0x7FC00000#32))

/-- The product of the user's row and the item's. -/
def gmfR (E : FVec F S16384x2x16 .f32) : FVec F S16384x16 .f32 :=
  mulf (shapeCast S16384x16 (extractStridedSlice S16384x1x16 ![0, 0, 0] E slices_S16384x2x16_S16384x1x16_0_0_0) shapeCasts_S16384x1x16_S16384x16)
    (shapeCast S16384x16 (extractStridedSlice S16384x1x16 ![0, 1, 0] E slices_S16384x2x16_S16384x1x16_0_1_0) shapeCasts_S16384x1x16_S16384x16)

/-- The first layer. -/
def h1R (E : FVec F S16384x2x16 .f32) (W1 : FVec F S32x64 .f32) (b1 : FVec F S64 .f32) : FVec F S16384x64 .f32 :=
  maximumf (addf (Host.dotGeneral dot_S16384x32_S32x64_S16384x64_1_0_0_1_n_n none (shapeCast S16384x32 E shapeCasts_S16384x2x16_S16384x32) W1)
    (broadcastInDim S16384x64 ![0, 1] bcast_S1x64_S16384x64_0_1 (broadcastInDim S1x64 ![1] bcast_S64_S1x64_1 b1)))
    (broadcastInDim S16384x64 ![] bcast_S_S16384x64 (constant S_ .f32 0x00000000#32))

/-- The second layer. -/
def h2R (H : FVec F S16384x64 .f32) (W2 : FVec F S64x32 .f32) (b2 : FVec F S32 .f32) : FVec F S16384x32 .f32 :=
  maximumf (addf (Host.dotGeneral dot_S16384x64_S64x32_S16384x32_1_0_0_1_n_n none H W2)
    (broadcastInDim S16384x32 ![0, 1] bcast_S1x32_S16384x32_0_1 (broadcastInDim S1x32 ![1] bcast_S32_S1x32_1 b2)))
    (broadcastInDim S16384x32 ![] bcast_S_S16384x32 (constant S_ .f32 0x00000000#32))

/-- The third layer. -/
def h3R (H : FVec F S16384x32 .f32) (W3 : FVec F S32x16 .f32) (b3 : FVec F S16 .f32) : FVec F S16384x16 .f32 :=
  maximumf (addf (Host.dotGeneral dot_S16384x32_S32x16_S16384x16_1_0_0_1_n_n none H W3)
    (broadcastInDim S16384x16 ![0, 1] bcast_S1x16_S16384x16_0_1 (broadcastInDim S1x16 ![1] bcast_S16_S1x16_1 b3)))
    (broadcastInDim S16384x16 ![] bcast_S_S16384x16 (constant S_ .f32 0x00000000#32))

/-- The result of the product and the last layer. -/
def outR (G H : FVec F S16384x16 .f32) (Wf : FVec F S32x1 .f32) (bf : FVec F S1 .f32) : FVec F S16384 .f32 :=
  shapeCast S16384 (addf (Host.dotGeneral dot_S16384x32_S32x1_S16384x1_1_0_0_1_n_n none
      (concatenate S16384x32 1 [⟨S16384x16, G⟩, ⟨S16384x16, H⟩] concatenates_S16384x16_S16384x16_S16384x32_d1) Wf)
    (broadcastInDim S16384x1 ![0, 1] bcast_S1x1_S16384x1_0_1 (broadcastInDim S1x1 ![1] bcast_S1_S1x1_1 bf)))
    shapeCasts_S16384x1_S16384

variable (m : (ℓ : Loc nD τ sig) → Buf (Elt F) ℓ)

/-- The rows looked up in a launch memory. -/
def embM (c : Dev nD) : FVec F S16384x2x16 .f32 :=
  embR (m ((c.tc : Thread nD τ).loc main_arg0)) (m ((c.tc : Thread nD τ).loc main_arg1))

set_option maxRecDepth 8192 in
set_option maxHeartbeats 4000000 in
/-- The reference's result is these terms, joined. -/
theorem out_eq (c : Dev nD) : Cert.ReferenceIdeal.Value.res_main_v30 m c =
  outR (gmfR (embM m c)) (h3R (h2R (h1R (embM m c) (m ((c.tc : Thread nD τ).loc main_arg2)) (m ((c.tc : Thread nD τ).loc main_arg3)))
      (m ((c.tc : Thread nD τ).loc main_arg4)) (m ((c.tc : Thread nD τ).loc main_arg5)))
      (m ((c.tc : Thread nD τ).loc main_arg6)) (m ((c.tc : Thread nD τ).loc main_arg7)))
    (m ((c.tc : Thread nD τ).loc main_arg8)) (m ((c.tc : Thread nD τ).loc main_arg9)) := rfl
end Terms

/-! ## The lookup, at an index -/

/-- The gather of whole rows, at an index: the row at the position, read signed and held inside the table. -/
theorem gather_rows {α : Type} (T : S2000000x16.Idx → α) (idx : IVec S16384x2x1 32) (b : Fin 16384) (f : Fin 2) (e : Fin 16) :
    Host.gather gather_S2000000x16_S16384x2x1_S16384x2x16_2_0_n_n_0_2_116 T idx (ix3 b f e)
      = T (ix2 ⟨min (BitVec.toInt (idx (ix3 b f 0) : BitVec 32)).toNat 1999999, by omega⟩ e) := by
  unfold Host.gather
  congr 1
  funext a
  refine Fin.ext ?_
  show GatherDims.start _ (ix3 b f e) idx a + GatherDims.batchCoord _ (ix3 b f e) a + GatherDims.offCoord _ (ix3 b f e) a = _
  match a with
  | ⟨0, _⟩ =>
    show GatherDims.start _ (ix3 b f e) idx 0 + GatherDims.batchCoord _ (ix3 b f e) 0 + GatherDims.offCoord _ (ix3 b f e) 0 = _
    rw [GatherDims.batchCoord_eq_zero _ _ _ (by decide), GatherDims.offCoord_eq_zero _ _ _ (by decide)]
    simp only [Nat.add_zero]
    unfold GatherDims.start
    rw [dif_pos (by decide)]
    have hs : ∀ h, GatherDims.siIdx gather_S2000000x16_S16384x2x1_S16384x2x16_2_0_n_n_0_2_116 (ix3 b f e)
        ⟨List.idxOf (0 : Fin 2) gather_S2000000x16_S16384x2x1_S16384x2x16_2_0_n_n_0_2_116.startIndexMap, h⟩ = ix3 b f 0 := by
      intro h
      funext k
      refine Fin.ext ?_
      match k with
      | ⟨0, _⟩ => rfl
      | ⟨1, _⟩ => rfl
      | ⟨2, _⟩ => rfl
    rw [hs]
    rfl
  | ⟨1, _⟩ =>
    show GatherDims.start _ (ix3 b f e) idx 1 + GatherDims.batchCoord _ (ix3 b f e) 1 + GatherDims.offCoord _ (ix3 b f e) 1 = _
    rw [GatherDims.batchCoord_eq_zero _ _ _ (by decide)]
    unfold GatherDims.start
    rw [dif_neg (by decide)]
    simp only [Nat.zero_add, Nat.add_zero]
    rfl

/-- The two offsets of the table's halves. -/
theorem lit0_apply (k : Fin 2) : lit0 (S2.rowMajor (ix1 k)) = BitVec.ofNat 32 (k.val * 1000000) := by
  revert k; decide

variable (X : IVec S16384x2 32)

/-- A position of the precondition, as a number. -/
theorem idxR_toNat (hX : ∀ i, BitVec.toNat (X i : BitVec 32) < 1000000) (b : Fin 16384) (f : Fin 2) :
    BitVec.toNat (idxR X (ix2 b f) : BitVec 32) = BitVec.toNat (X (ix2 b f) : BitVec 32) + f.val * 1000000 := by
  have h := hX (ix2 b f)
  pointwise [idxR]
  rw [lit0_apply]
  show BitVec.toNat (_ + _) = _
  rw [BitVec.toNat_add, BitVec.toNat_ofNat]
  omega

/-- A small word, read signed. -/
theorem toInt_small (w : BitVec 32) (h : w.toNat < 2000000) : w.toInt = w.toNat := by
  rw [BitVec.toInt_eq_toNat_cond]; split <;> omega

/-- No position is negative. -/
theorem fixR_apply (hX : ∀ i, BitVec.toNat (X i : BitVec 32) < 1000000) (b : Fin 16384) (f : Fin 2) :
    fixR X (ix2 b f) = idxR X (ix2 b f) := by
  have h := hX (ix2 b f)
  have hn := idxR_toNat X hX b f
  pointwise [fixR]
  have hi := toInt_small (idxR X (ix2 b f)) (by omega)
  rw [Scalar.select, if_neg]
  intro e
  have := IntOp.cmpi_slt.1 e
  rw [hi, show (0#32 : BitVec 32).toInt = 0 from by decide] at this
  omega

/-- Every position lies in the table. -/
theorem okR_apply (hX : ∀ i, BitVec.toNat (X i : BitVec 32) < 1000000) (i : S16384x2.Idx) : okR X i = 1#1 := by
  refine Host.reduce_andi_one _ _ _ _ _ rfl fun k => ?_
  obtain ⟨b, f, z, rfl⟩ : ∃ (b : Fin 16384) (f : Fin 2) (z : Fin 1), k = ix3 b f z := ⟨k 0, k 1, k 2, eq_ix3 k⟩
  have h := hX (ix2 b f)
  have hn := idxR_toNat X hX b f
  have hf := fixR_apply X hX b f
  have hi := toInt_small (idxR X (ix2 b f)) (by omega)
  pointwise [inR, startR]
  rw [hf]
  refine IntOp.andi_eq_one.2 ⟨IntOp.cmpi_sge.2 ?_, IntOp.cmpi_sle.2 ?_⟩
  · rw [hi, show (0#32 : BitVec 32).toInt = 0 from by decide]; omega
  · rw [hi, show (1999999#32 : BitVec 32).toInt = 1999999 from by decide]; omega

/-- The rows looked up. -/
theorem embR_apply (hX : ∀ i, BitVec.toNat (X i : BitVec 32) < 1000000) (T : FVec Ideal S2000000x16 .f32) (b : Fin 16384) (f : Fin 2) (e : Fin 16) :
    embR X T (ix3 b f e) = T (ix2 ⟨BitVec.toNat (X (ix2 b f) : BitVec 32) + f.val * 1000000, by have := hX (ix2 b f); omega⟩ e) := by
  have h := hX (ix2 b f)
  have hn := idxR_toNat X hX b f
  have hf := fixR_apply X hX b f
  have hi := toInt_small (idxR X (ix2 b f)) (by omega)
  pointwise [embR]
  rw [Scalar.select, if_pos (show okR X (ix2 b f) = 1 from okR_apply X hX _), gather_rows]
  congr 2
  refine Fin.ext ?_
  have hs : startR X (ix3 b f 0) = idxR X (ix2 b f) := by pointwise [startR]; exact hf
  simp only [hs, hi]
  omega

/-! ## The layers, at an index -/

variable (E : FVec Ideal S16384x2x16 .f32)

/-- The product. -/
theorem gmfR_apply (b : Fin 16384) (k : Fin 16) : gmfR E (ix2 b k) = E (ix3 b 0 k) * E (ix3 b 1 k) := by
  pointwise [gmfR]

/-- The first layer: the sum over the joined rows, cut where the item's begins. -/
theorem h1R_apply (W1 : FVec Ideal S32x64 .f32) (b1 : FVec Ideal S64 .f32) (b : Fin 16384) (j : Fin 64) :
    h1R E W1 b1 (ix2 b j) = Spec.s1 (fun k => E (ix3 b 0 k)) (fun k => E (ix3 b 1 k)) W1 b1 j := by
  pointwise [h1R, Spec.s1]
  rw [show (∑ x : Fin 32, E (ix3 b ⟨x.val / 16, by omega⟩ ⟨x.val % 16, by omega⟩) * W1 (ix2 x j))
      = (∑ k : Fin 16, E (ix3 b 0 k) * W1 (ix2 ⟨k.val, by omega⟩ j)) + (∑ k : Fin 16, E (ix3 b 1 k) * W1 (ix2 ⟨16 + k.val, by omega⟩ j)) from ?_]
  rw [show (∑ x : Fin 32, E (ix3 b ⟨x.val / 16, by omega⟩ ⟨x.val % 16, by omega⟩) * W1 (ix2 x j))
      = (∑ k : Fin 16, E (ix3 b ⟨(Fin.castAdd 16 k).val / 16, by omega⟩ ⟨(Fin.castAdd 16 k).val % 16, by omega⟩) * W1 (ix2 (Fin.castAdd 16 k) j))
        + (∑ k : Fin 16, E (ix3 b ⟨(Fin.natAdd 16 k).val / 16, by omega⟩ ⟨(Fin.natAdd 16 k).val % 16, by omega⟩) * W1 (ix2 (Fin.natAdd 16 k) j))
      from Fin.sum_univ_add (a := 16) (b := 16) _]
  congr 1

/-- The second layer. -/
theorem h2R_apply (H : FVec Ideal S16384x64 .f32) (W2 : FVec Ideal S64x32 .f32) (b2 : FVec Ideal S32 .f32) (b : Fin 16384) (j : Fin 32) :
    h2R H W2 b2 (ix2 b j) = Spec.s2 (fun k => H (ix2 b k)) W2 b2 j := by
  pointwise [h2R, Spec.s2]

/-- The third layer. -/
theorem h3R_apply (H : FVec Ideal S16384x32 .f32) (W3 : FVec Ideal S32x16 .f32) (b3 : FVec Ideal S16 .f32) (b : Fin 16384) (j : Fin 16) :
    h3R H W3 b3 (ix2 b j) = Spec.s3 (fun k => H (ix2 b k)) W3 b3 j := by
  pointwise [h3R, Spec.s3]

/-- The result. -/
theorem outR_apply (G H : FVec Ideal S16384x16 .f32) (Wf : FVec Ideal S32x1 .f32) (bf : FVec Ideal S1 .f32) (b : Fin 16384) :
    outR G H Wf bf (ix1 b) = ((∑ k : Fin 16, G (ix2 b k) * Wf (ix2 ⟨k.val, by omega⟩ 0)) + (∑ k : Fin 16, H (ix2 b k) * Wf (ix2 ⟨16 + k.val, by omega⟩ 0))) + bf (ix1 0) := by
  pointwise [outR]

/-- The reference's result, sample by sample. -/
theorem out_apply (m : (ℓ : Loc nD τ sig) → Buf (Elt Ideal) ℓ) (c : Dev nD)
    (X : IVec S16384x2 32) (T : FVec Ideal S2000000x16 .f32) (W1 : FVec Ideal S32x64 .f32) (b1 : FVec Ideal S64 .f32)
    (W2 : FVec Ideal S64x32 .f32) (b2 : FVec Ideal S32 .f32) (W3 : FVec Ideal S32x16 .f32) (b3 : FVec Ideal S16 .f32)
    (Wf : FVec Ideal S32x1 .f32) (bf : FVec Ideal S1 .f32)
    (h0 : m ((c.tc : Thread nD τ).loc main_arg0) = X) (h1 : m ((c.tc : Thread nD τ).loc main_arg1) = T)
    (h2 : m ((c.tc : Thread nD τ).loc main_arg2) = W1) (h3 : m ((c.tc : Thread nD τ).loc main_arg3) = b1)
    (h4 : m ((c.tc : Thread nD τ).loc main_arg4) = W2) (h5 : m ((c.tc : Thread nD τ).loc main_arg5) = b2)
    (h6 : m ((c.tc : Thread nD τ).loc main_arg6) = W3) (h7 : m ((c.tc : Thread nD τ).loc main_arg7) = b3)
    (h8 : m ((c.tc : Thread nD τ).loc main_arg8) = Wf) (h9 : m ((c.tc : Thread nD τ).loc main_arg9) = bf)
    (hX : ∀ i, BitVec.toNat (X i : BitVec 32) < 1000000) (b : Fin 16384) :
    (Cert.ReferenceIdeal.Value.res_main_v30 m c : FVec Ideal S16384 .f32) (ix1 b)
      = Spec.sample (fun e => T (ix2 ⟨BitVec.toNat (X (ix2 b 0) : BitVec 32), by have := hX (ix2 b 0); omega⟩ e))
          (fun e => T (ix2 ⟨BitVec.toNat (X (ix2 b 1) : BitVec 32) + 1000000, by have := hX (ix2 b 1); omega⟩ e))
          W1 b1 W2 b2 W3 b3 Wf bf := by
  rw [out_eq, h2, h3, h4, h5, h6, h7, h8, h9]
  unfold embM
  rw [h0, h1, outR_apply]
  unfold Spec.sample Spec.sOut
  have hE : ∀ (f : Fin 2) (e : Fin 16), embR (F := Ideal) X T (ix3 b f e) = _ := embR_apply X hX T b
  have hu : (fun e => embR (F := Ideal) X T (ix3 b 0 e)) = fun e => T (ix2 ⟨BitVec.toNat (X (ix2 b 0) : BitVec 32), by have := hX (ix2 b 0); omega⟩ e) := by
    funext e; rw [hE]; rfl
  have hv : (fun e => embR (F := Ideal) X T (ix3 b 1 e)) = fun e => T (ix2 ⟨BitVec.toNat (X (ix2 b 1) : BitVec 32) + 1000000, by have := hX (ix2 b 1); omega⟩ e) := by
    funext e; rw [hE]; rfl
  rw [← hu, ← hv]
  simp only [gmfR_apply, h3R_apply, h2R_apply, h1R_apply]

end Cert.Proof.Ref

end
-- ==== Proof.Value.lean ====
/- The kernel over the extended reals and the reference end with the same result: each sample of either is the same function
   of the two rows of the table and the weights. -/
module

public import proofs.«01_k».proof.Proof.KernelValue
public import proofs.«01_k».proof.Proof.RefValue
public import proofs.«01_k».proof.Proof.Frames

@[expose] public section

noncomputable section

namespace Cert.Proof.Host

open Idealize.ShloMosaic Idealize.SL.Sem

set_option maxHeartbeats 4000000 in
set_option maxRecDepth 8192 in
/-- The kernel's result is the reference's. -/
theorem algebraic : Cert.algebraic_KernelIdeal_ReferenceIdeal := by
  intro m g m' g' hp ha
  have hs : ∀ d : Dev Cert.KernelIdeal.nD, Small (m (d, dr Cert.KernelIdeal.main_arg0)) :=
    fun d => small_of_pre _ _ _ _ _ _ _ _ _ _ (hp d)
  refine ⟨fun c => V5 m c (dr Cert.KernelIdeal.main_v95),
    (θ_run Cert.KernelIdeal.defs _ _).mono (fun _ h => h.1) (run_args (F := Ideal) m g hs),
    (θ_run Cert.ReferenceIdeal.defs _ _).mono (fun r h c => ⟨(h c).1.trans ?_, (h c).2⟩) (Cert.ReferenceIdeal.Value.run (F := Ideal) m' g')⟩
  obtain ⟨a0, a1, a2, a3, a4, a5, a6, a7, a8, a9⟩ := ha c
  funext i
  obtain ⟨b, rfl⟩ : ∃ b : Fin 16384, i = ix1 b := ⟨i 0, eq_ix1 i⟩
  exact (Ref.out_apply m' c _ _ _ _ _ _ _ _ _ _ a0 a1 a2 a3 a4 a5 a6 a7 a8 a9 (hs c) b).trans
    (value_apply m c _ _ _ _ _ _ _ _ _ _ rfl rfl rfl rfl rfl rfl rfl rfl rfl rfl (hs c) b).symm

end Cert.Proof.Host

end
-- ==== Proof.lean ====
/- The claims of this directory, proved. The program's run is the launch's theorem over its SparseCore call and its
   pallas_call (Proof/Main.lean); the frames read it at the arguments (Proof/Frames.lean), and the value reads both programs'
   results sample by sample (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Pre_in_range.Gen.facts,
  Host.frame_kernel, Host.frame_ideal, Host.frame_reference, Host.frame_reference_in_range, trivial,
  Host.algebraic⟩

end Cert.Proof

end
